-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S8x128
  ∧ IdealRules.bf16_pack.Statement Cert.KernelIdeal.S8x512

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S30x2048x1024 : Shape := ⟨3, ![30, 2048, 1024]⟩
abbrev S30x32x1024 : Shape := ⟨3, ![30, 32, 1024]⟩
abbrev S30x4096x8 : Shape := ⟨3, ![30, 4096, 8]⟩
abbrev S30x8x1024 : Shape := ⟨3, ![30, 8, 1024]⟩
abbrev S30x1024 : Shape := ⟨2, ![30, 1024]⟩
abbrev S_ : Shape := ⟨0, ![]⟩

class Facts : Prop where
  bitsLt_bf16_f32 : FTy.bits .bf16 < FTy.bits .f32
  bcast_S_S30x32x1024 : S_.BroadcastsInDim S30x32x1024 (![] : Fin 0 → Fin S30x32x1024.rank)
  reducesTo_S30x32x1024_S_d0_1_2 : S30x32x1024.ReducesTo [0, 1, 2] S_
  h_S_ : 0 < S_.numel
  bcast_S_S30x4096x8 : S_.BroadcastsInDim S30x4096x8 (![] : Fin 0 → Fin S30x4096x8.rank)
  reducesTo_S30x4096x8_S_d0_1_2 : S30x4096x8.ReducesTo [0, 1, 2] S_
  bcast_S_S30x8x1024 : S_.BroadcastsInDim S30x8x1024 (![] : Fin 0 → Fin S30x8x1024.rank)
  reducesTo_S30x8x1024_S_d0_1_2 : S30x8x1024.ReducesTo [0, 1, 2] S_

variable [Facts]

def fn_part1 {F : FTy → Type} [FloatOps F] (main_v13 : IVec S_ 1) (main_v17 : IVec S30x8x1024 1) : IVec S_ 1 :=
  let main_c_4 : IVec S_ 1 := constantI S_ 1 1#1
  let main_v18 : IVec S_ 1 := (fun x v => Host.reduce IntOp.andi x v reducesTo_S30x8x1024_S_d0_1_2 h_S_) main_v17 main_c_4
  let main_v19 : IVec S_ 1 := andi main_v13 main_v18
  main_v19

def fn {F : FTy → Type} [FloatOps F] (main_arg0 : IVec S30x2048x1024 8) (main_arg1 : FVec F S30x32x1024 .bf16) (main_arg2 : FVec F S30x4096x8 .bf16) (main_arg3 : FVec F S30x8x1024 .bf16) (main_arg4 : FVec F S30x1024 .bf16) : IVec S_ 1 :=
  let main_v0 : FVec F S30x32x1024 .f32 := (extf .f32 · bitsLt_bf16_f32) main_arg1
  let main_v1 : FVec F S30x32x1024 .f32 := Host.absf main_v0
  let main_cst : FVec F S_ .f32 := constant S_ .f32 0x7F800000#32
  let main_v2 : FVec F S30x32x1024 .f32 := broadcastInDim S30x32x1024 ![] bcast_S_S30x32x1024 main_cst
  let main_v3 : IVec S30x32x1024 1 := cmpf .olt main_v1 main_v2
  let main_cst_0 : FVec F S_ .f32 := constant S_ .f32 0x00000000#32
  let main_v4 : FVec F S30x32x1024 .f32 := broadcastInDim S30x32x1024 ![] bcast_S_S30x32x1024 main_cst_0
  let main_v5 : IVec S30x32x1024 1 := cmpf .ogt main_v1 main_v4
  let main_v6 : IVec S30x32x1024 1 := andi main_v3 main_v5
  let main_c : IVec S_ 1 := constantI S_ 1 1#1
  let main_v7 : IVec S_ 1 := (fun x v => Host.reduce IntOp.andi x v reducesTo_S30x32x1024_S_d0_1_2 h_S_) main_v6 main_c
  let main_v8 : FVec F S30x4096x8 .f32 := (extf .f32 · bitsLt_bf16_f32) main_arg2
  let main_v9 : FVec F S30x4096x8 .f32 := Host.absf main_v8
  let main_cst_1 : FVec F S_ .f32 := constant S_ .f32 0x7F800000#32
  let main_v10 : FVec F S30x4096x8 .f32 := broadcastInDim S30x4096x8 ![] bcast_S_S30x4096x8 main_cst_1
  let main_v11 : IVec S30x4096x8 1 := cmpf .olt main_v9 main_v10
  let main_c_2 : IVec S_ 1 := constantI S_ 1 1#1
  let main_v12 : IVec S_ 1 := (fun x v => Host.reduce IntOp.andi x v reducesTo_S30x4096x8_S_d0_1_2 h_S_) main_v11 main_c_2
  let main_v13 : IVec S_ 1 := andi main_v7 main_v12
  let main_v14 : FVec F S30x8x1024 .f32 := (extf .f32 · bitsLt_bf16_f32) main_arg3
  let main_v15 : FVec F S30x8x1024 .f32 := Host.absf main_v14
  let main_cst_3 : FVec F S_ .f32 := constant S_ .f32 0x7F800000#32
  let main_v16 : FVec F S30x8x1024 .f32 := broadcastInDim S30x8x1024 ![] bcast_S_S30x8x1024 main_cst_3
  let main_v17 : IVec S30x8x1024 1 := cmpf .olt main_v15 main_v16
  fn_part1 (F := F) main_v13 main_v17
-- ==== Kernel.lean ====
abbrev S30x2048x1024 : Shape := ⟨3, ![30, 2048, 1024]⟩
abbrev S30x32x1024 : Shape := ⟨3, ![30, 32, 1024]⟩
abbrev S30x4096x8 : Shape := ⟨3, ![30, 4096, 8]⟩
abbrev S30x8x1024 : Shape := ⟨3, ![30, 8, 1024]⟩
abbrev S30x1024 : Shape := ⟨2, ![30, 1024]⟩
abbrev S30x32x128x8 : Shape := ⟨4, ![30, 32, 128, 8]⟩
abbrev S30x32x8x128 : Shape := ⟨4, ![30, 32, 8, 128]⟩
abbrev S30x32x16x128 : Shape := ⟨4, ![30, 32, 16, 128]⟩
abbrev S30x512x128 : Shape := ⟨3, ![30, 512, 128]⟩
abbrev S30x1x1024 : Shape := ⟨3, ![30, 1, 1024]⟩
abbrev S1x2048x512 : Shape := ⟨3, ![1, 2048, 512]⟩
abbrev S1x32x512 : Shape := ⟨3, ![1, 32, 512]⟩
abbrev S1x512x128 : Shape := ⟨3, ![1, 512, 128]⟩
abbrev S1x8x512 : Shape := ⟨3, ![1, 8, 512]⟩
abbrev S1x1x512 : Shape := ⟨3, ![1, 1, 512]⟩
abbrev S128x128 : Shape := ⟨2, ![128, 128]⟩
abbrev S4096x512 : Shape := ⟨2, ![4096, 512]⟩
abbrev S4x256x128 : Shape := ⟨3, ![4, 256, 128]⟩
abbrev S4x8x128 : Shape := ⟨3, ![4, 8, 128]⟩
abbrev S4x32x128 : Shape := ⟨3, ![4, 32, 128]⟩
abbrev S1x32x128 : Shape := ⟨3, ![1, 32, 128]⟩
abbrev S32x128 : Shape := ⟨2, ![32, 128]⟩
abbrev S8x512 : Shape := ⟨2, ![8, 512]⟩
abbrev S1x16x128 : Shape := ⟨3, ![1, 16, 128]⟩
abbrev S16x128 : Shape := ⟨2, ![16, 128]⟩
abbrev S16x1024 : Shape := ⟨2, ![16, 1024]⟩
abbrev S64x1024 : Shape := ⟨2, ![64, 1024]⟩
abbrev S1024x128 : Shape := ⟨2, ![1024, 128]⟩
abbrev S64x128 : Shape := ⟨2, ![64, 128]⟩
abbrev S8x128 : Shape := ⟨2, ![8, 128]⟩
abbrev S16x384 : Shape := ⟨2, ![16, 384]⟩
abbrev S24x512 : Shape := ⟨2, ![24, 512]⟩
abbrev S128x512 : Shape := ⟨2, ![128, 512]⟩
abbrev S384x512 : Shape := ⟨2, ![384, 512]⟩
abbrev S16x512 : Shape := ⟨2, ![16, 512]⟩
abbrev S1x8x128 : Shape := ⟨3, ![1, 8, 128]⟩
abbrev S1x64x512 : Shape := ⟨3, ![1, 64, 512]⟩
abbrev S64x512 : Shape := ⟨2, ![64, 512]⟩
abbrev S64x1x512 : Shape := ⟨3, ![64, 1, 512]⟩
abbrev S64x2x512 : Shape := ⟨3, ![64, 2, 512]⟩
abbrev S1x1x128 : Shape := ⟨3, ![1, 1, 128]⟩
abbrev S1x128 : Shape := ⟨2, ![1, 128]⟩
abbrev S1x512 : Shape := ⟨2, ![1, 512]⟩
abbrev S256x512 : Shape := ⟨2, ![256, 512]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S30x2048x1024, .i8⟩
  | .hbm, ⟨1, _⟩ => ⟨S30x32x1024, .bf16⟩
  | .hbm, ⟨2, _⟩ => ⟨S30x4096x8, .bf16⟩
  | .hbm, ⟨3, _⟩ => ⟨S30x8x1024, .bf16⟩
  | .hbm, ⟨4, _⟩ => ⟨S30x1024, .bf16⟩
  | .hbm, ⟨5, _⟩ => ⟨S30x32x128x8, .bf16⟩
  | .hbm, ⟨6, _⟩ => ⟨S30x32x8x128, .bf16⟩
  | .hbm, ⟨7, _⟩ => ⟨S30x32x16x128, .bf16⟩
  | .hbm, ⟨8, _⟩ => ⟨S30x512x128, .bf16⟩
  | .hbm, ⟨9, _⟩ => ⟨S30x1x1024, .bf16⟩
  | .hbm, ⟨10, _⟩ => ⟨S30x2048x1024, .i8⟩
  | .hbm, ⟨11, _⟩ => ⟨S30x32x1024, .bf16⟩
  | .local _ .vmem, ⟨0, _⟩ => ⟨S1x2048x512, .i8⟩
  | .local _ .vmem, ⟨1, _⟩ => ⟨S1x2048x512, .i8⟩
  | .local _ .vmem, ⟨2, _⟩ => ⟨S1x32x512, .bf16⟩
  | .local _ .vmem, ⟨3, _⟩ => ⟨S1x32x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x8x512, .bf16⟩
  | .local _ .vmem, ⟨7, _⟩ => ⟨S1x8x512, .bf16⟩
  | .local _ .vmem, ⟨8, _⟩ => ⟨S1x1x512, .bf16⟩
  | .local _ .vmem, ⟨9, _⟩ => ⟨S1x1x512, .bf16⟩
  | .local _ .vmem, ⟨10, _⟩ => ⟨S1x2048x512, .i8⟩
  | .local _ .vmem, ⟨11, _⟩ => ⟨S1x2048x512, .i8⟩
  | .local _ .vmem, ⟨12, _⟩ => ⟨S1x32x512, .bf16⟩
  | .local _ .vmem, ⟨13, _⟩ => ⟨S1x32x512, .bf16⟩
  | .local _ .vmem, ⟨14, _⟩ => ⟨S128x128, .bf16⟩
  | .local _ .vmem, ⟨15, _⟩ => ⟨S4096x512, .f32⟩
  | .local _ .vmem, ⟨16, _⟩ => ⟨S4x256x128, .f32⟩
  | .local _ .vmem, ⟨17, _⟩ => ⟨S4x256x128, .f32⟩
  | .local _ .vmem, ⟨18, _⟩ => ⟨S4x8x128, .f32⟩
  | .local _ .vmem, ⟨19, _⟩ => ⟨S4x32x128, .f32⟩
  | .local _ .vmem, ⟨20, _⟩ => ⟨S4x32x128, .f32⟩
  | .local _ .vmem, ⟨21, _⟩ => ⟨S4x32x128, .f32⟩
  | _, _ => ⟨S30x2048x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![61], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c60_i32 : BitVec 32 := 60#32
  let v4 : BitVec 1 := Scalar.cmpi .slt arg0 c60_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c60_i32_3 : BitVec 32 := 60#32
  let v8 : BitVec 1 := Scalar.cmpi .eq arg0 c60_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c59_i32 : BitVec 32 := 59#32
  let v0 : BitVec 32 := Scalar.minsi arg0 c59_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_1 (i : grid0.Coords) : Fin 3 → Nat :=
  let arg0 : BitVec 32 := BitVec.ofNat 32 (i 0).val
  let c59_i32 : BitVec 32 := 59#32
  let v0 : BitVec 32 := Scalar.minsi arg0 c59_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_2 (i : grid0.Coords) : Fin 3 → Nat :=
  let arg0 : BitVec 32 := BitVec.ofNat 32 (i 0).val
  let c59_i32 : BitVec 32 := 59#32
  let v0 : BitVec 32 := Scalar.minsi arg0 c59_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c59_i32 : BitVec 32 := 59#32
  let v0 : BitVec 32 := Scalar.minsi arg0 c59_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

abbrev stage0_0 : Fin 2 → Memref sig .tc .vmem S1x2048x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S30x2048x1024 : Shape := ⟨3, ![30, 2048, 1024]⟩
abbrev S30x32x1024 : Shape := ⟨3, ![30, 32, 1024]⟩
abbrev S30x4096x8 : Shape := ⟨3, ![30, 4096, 8]⟩
abbrev S30x8x1024 : Shape := ⟨3, ![30, 8, 1024]⟩
abbrev S30x1024 : Shape := ⟨2, ![30, 1024]⟩
abbrev S_ : Shape := ⟨0, ![]⟩
abbrev S30x32x1x1024 : Shape := ⟨4, ![30, 32, 1, 1024]⟩
abbrev S30x32x64x1024 : Shape := ⟨4, ![30, 32, 64, 1024]⟩
abbrev S30x32x64x2x8 : Shape := ⟨5, ![30, 32, 64, 2, 8]⟩
abbrev S30x32x64x1x8 : Shape := ⟨5, ![30, 32, 64, 1, 8]⟩
abbrev S30x32x64x8 : Shape := ⟨4, ![30, 32, 64, 8]⟩
abbrev S30x1x1x1024 : Shape := ⟨4, ![30, 1, 1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S30x2048x1024, .i8⟩
  | .hbm, ⟨1, _⟩ => ⟨S30x32x1024, .bf16⟩
  | .hbm, ⟨2, _⟩ => ⟨S30x4096x8, .bf16⟩
  | .hbm, ⟨3, _⟩ => ⟨S30x8x1024, .bf16⟩
  | .hbm, ⟨4, _⟩ => ⟨S30x1024, .bf16⟩
  | .hbm, ⟨5, _⟩ => ⟨S30x2048x1024, .i32⟩
  | .hbm, ⟨6, _⟩ => ⟨S_, .i32⟩
  | .hbm, ⟨7, _⟩ => ⟨S30x2048x1024, .i32⟩
  | .hbm, ⟨8, _⟩ => ⟨S30x2048x1024, .i32⟩
  | .hbm, ⟨9, _⟩ => ⟨S_, .i32⟩
  | .hbm, ⟨10, _⟩ => ⟨S30x2048x1024, .i32⟩
  | .hbm, ⟨11, _⟩ => ⟨S30x2048x1024, .i32⟩
  | .hbm, ⟨12, _⟩ => ⟨S_, .i32⟩
  | .hbm, ⟨13, _⟩ => ⟨S30x2048x1024, .i32⟩
  | .hbm, ⟨14, _⟩ => ⟨S30x2048x1024, .i1⟩
  | .hbm, ⟨15, _⟩ => ⟨S_, .i32⟩
  | .hbm, ⟨16, _⟩ => ⟨S30x2048x1024, .i32⟩
  | .hbm, ⟨17, _⟩ => ⟨S30x2048x1024, .i32⟩
  | .hbm, ⟨18, _⟩ => ⟨S30x2048x1024, .i32⟩
  | .hbm, ⟨19, _⟩ => ⟨S_, .i32⟩
  | .hbm, ⟨20, _⟩ => ⟨S30x2048x1024, .i32⟩
  | .hbm, ⟨21, _⟩ => ⟨S30x2048x1024, .i1⟩
  | .hbm, ⟨22, _⟩ => ⟨S_, .i32⟩
  | .hbm, ⟨23, _⟩ => ⟨S30x2048x1024, .i32⟩
  | .hbm, ⟨24, _⟩ => ⟨S30x2048x1024, .i32⟩
  | .hbm, ⟨25, _⟩ => ⟨S30x2048x1024, .i32⟩
  | .hbm, ⟨26, _⟩ => ⟨S30x32x1024, .f32⟩
  | .hbm, ⟨27, _⟩ => ⟨S30x32x1x1024, .f32⟩
  | .hbm, ⟨28, _⟩ => ⟨S30x32x64x1024, .i32⟩
  | .hbm, ⟨29, _⟩ => ⟨S30x32x64x1024, .f32⟩
  | .hbm, ⟨30, _⟩ => ⟨S30x32x64x1024, .f32⟩
  | .hbm, ⟨31, _⟩ => ⟨S30x32x64x1024, .f32⟩
  | .hbm, ⟨32, _⟩ => ⟨S30x32x64x1024, .i32⟩
  | .hbm, ⟨33, _⟩ => ⟨S30x32x64x1024, .f32⟩
  | .hbm, ⟨34, _⟩ => ⟨S30x32x64x1024, .f32⟩
  | .hbm, ⟨35, _⟩ => ⟨S30x32x64x1024, .f32⟩
  | .hbm, ⟨36, _⟩ => ⟨S30x32x64x2x8, .bf16⟩
  | .hbm, ⟨37, _⟩ => ⟨S30x32x64x1x8, .bf16⟩
  | .hbm, ⟨38, _⟩ => ⟨S30x32x64x8, .bf16⟩
  | .hbm, ⟨39, _⟩ => ⟨S30x32x64x1x8, .bf16⟩
  | .hbm, ⟨40, _⟩ => ⟨S30x32x64x8, .bf16⟩
  | .hbm, ⟨41, _⟩ => ⟨S30x32x64x1024, .f32⟩
  | .hbm, ⟨42, _⟩ => ⟨S30x32x64x1024, .f32⟩
  | .hbm, ⟨43, _⟩ => ⟨S_, .f32⟩
  | .hbm, ⟨44, _⟩ => ⟨S30x32x64x1024, .f32⟩
  | .hbm, ⟨45, _⟩ => ⟨S30x32x64x1024, .f32⟩
  | .hbm, ⟨46, _⟩ => ⟨S30x32x64x1024, .f32⟩
  | .hbm, ⟨47, _⟩ => ⟨S_, .f32⟩
  | .hbm, ⟨48, _⟩ => ⟨S30x32x64x1024, .f32⟩
  | .hbm, ⟨49, _⟩ => ⟨S30x32x64x1024, .f32⟩
  | .hbm, ⟨50, _⟩ => ⟨S30x32x64x1024, .f32⟩
  | .hbm, ⟨51, _⟩ => ⟨S30x32x64x1024, .f32⟩
  | .hbm, ⟨52, _⟩ => ⟨S_, .f32⟩
  | .hbm, ⟨53, _⟩ => ⟨S30x1024, .f32⟩
  | .hbm, ⟨54, _⟩ => ⟨S30x32x64x1024, .f32⟩
  | .hbm, ⟨55, _⟩ => ⟨S_, .f32⟩
  | .hbm, ⟨56, _⟩ => ⟨S30x1024, .f32⟩
  | .hbm, ⟨57, _⟩ => ⟨S30x1024, .f32⟩
  | .hbm, ⟨58, _⟩ => ⟨S30x1024, .f32⟩
  | .hbm, ⟨59, _⟩ => ⟨S30x1024, .f32⟩
  | .hbm, ⟨60, _⟩ => ⟨S30x1024, .f32⟩
  | .hbm, ⟨61, _⟩ => ⟨S30x1x1x1024, .f32⟩
  | .hbm, ⟨62, _⟩ => ⟨S30x32x64x1024, .f32⟩
  | .hbm, ⟨63, _⟩ => ⟨S30x32x64x1024, .f32⟩
  | .hbm, ⟨64, _⟩ => ⟨S30x32x64x1024, .f32⟩
  | .hbm, ⟨65, _⟩ => ⟨S30x32x64x1024, .f32⟩
  | .hbm, ⟨66, _⟩ => ⟨S30x32x64x1024, .f32⟩
  | .hbm, ⟨67, _⟩ => ⟨S_, .f32⟩
  | .hbm, ⟨68, _⟩ => ⟨S30x32x1024, .f32⟩
  | .hbm, ⟨69, _⟩ => ⟨S30x32x64x1024, .f32⟩
  | .hbm, ⟨70, _⟩ => ⟨S_, .f32⟩
  | .hbm, ⟨71, _⟩ => ⟨S30x32x1024, .f32⟩
  | .hbm, ⟨72, _⟩ => ⟨S30x32x1024, .f32⟩
  | .hbm, ⟨73, _⟩ => ⟨S_, .f32⟩
  | .hbm, ⟨74, _⟩ => ⟨S30x32x1024, .f32⟩
  | .hbm, ⟨75, _⟩ => ⟨S30x32x1024, .i1⟩
  | .hbm, ⟨76, _⟩ => ⟨S_, .f32⟩
  | .hbm, ⟨77, _⟩ => ⟨S30x32x1024, .f32⟩
  | .hbm, ⟨78, _⟩ => ⟨S30x32x1024, .f32⟩
  | .hbm, ⟨79, _⟩ => ⟨S_, .f32⟩
  | .hbm, ⟨80, _⟩ => ⟨S30x32x1024, .f32⟩
  | .hbm, ⟨81, _⟩ => ⟨S30x32x1024, .f32⟩
  | .hbm, ⟨82, _⟩ => ⟨S30x32x1024, .bf16⟩
  | .hbm, ⟨83, _⟩ => ⟨S30x32x1024, .f32⟩
  | .hbm, ⟨84, _⟩ => ⟨S30x32x1x1024, .f32⟩
  | .hbm, ⟨85, _⟩ => ⟨S30x32x64x1024, .f32⟩
  | .hbm, ⟨86, _⟩ => ⟨S30x32x64x1024, .f32⟩
  | .hbm, ⟨87, _⟩ => ⟨S30x32x64x1024, .f32⟩
  | .hbm, ⟨88, _⟩ => ⟨S_, .i32⟩
  | .hbm, ⟨89, _⟩ => ⟨S_, .i32⟩
  | .hbm, ⟨90, _⟩ => ⟨S_, .f32⟩
  | .hbm, ⟨91, _⟩ => ⟨S30x32x64x1024, .f32⟩
  | .hbm, ⟨92, _⟩ => ⟨S30x32x64x1024, .f32⟩
  | .hbm, ⟨93, _⟩ => ⟨S_, .f32⟩
  | .hbm, ⟨94, _⟩ => ⟨S30x32x64x1024, .f32⟩
  | .hbm, ⟨95, _⟩ => ⟨S30x32x64x1024, .f32⟩
  | .hbm, ⟨96, _⟩ => ⟨S30x32x64x1024, .i32⟩
  | .hbm, ⟨97, _⟩ => ⟨S30x32x64x1024, .i8⟩
  | .hbm, ⟨98, _⟩ => ⟨S30x32x64x1024, .f32⟩
  | .hbm, ⟨99, _⟩ => ⟨S30x32x64x1024, .f32⟩
  | .hbm, ⟨100, _⟩ => ⟨S30x32x64x1024, .f32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S30x32x64x1024, .f32⟩
  | .hbm, ⟨105, _⟩ => ⟨S30x32x64x1024, .f32⟩
  | .hbm, ⟨106, _⟩ => ⟨S_, .f32⟩
  | .hbm, ⟨107, _⟩ => ⟨S30x32x64x1024, .f32⟩
  | .hbm, ⟨108, _⟩ => ⟨S30x32x64x1024, .f32⟩
  | .hbm, ⟨109, _⟩ => ⟨S30x32x64x1024, .i32⟩
  | .hbm, ⟨110, _⟩ => ⟨S30x32x64x1024, .i8⟩
  | .hbm, ⟨111, _⟩ => ⟨S30x32x64x1024, .i32⟩
  | .hbm, ⟨112, _⟩ => ⟨S_, .i32⟩
  | .hbm, ⟨113, _⟩ => ⟨S30x32x64x1024, .i32⟩
  | .hbm, ⟨114, _⟩ => ⟨S30x32x64x1024, .i32⟩
  | .hbm, ⟨115, _⟩ => ⟨S30x32x64x1024, .i32⟩
  | .hbm, ⟨116, _⟩ => ⟨S_, .i32⟩
  | .hbm, ⟨117, _⟩ => ⟨S30x32x64x1024, .i32⟩
  | .hbm, ⟨118, _⟩ => ⟨S30x32x64x1024, .i32⟩
  | .hbm, ⟨119, _⟩ => ⟨S_, .i32⟩
  | .hbm, ⟨120, _⟩ => ⟨S30x32x64x1024, .i32⟩
  | .hbm, ⟨121, _⟩ => ⟨S30x32x64x1024, .i32⟩
  | .hbm, ⟨122, _⟩ => ⟨S30x32x64x1024, .i32⟩
  | .hbm, ⟨123, _⟩ => ⟨S30x32x64x1024, .i8⟩
  | .hbm, ⟨124, _⟩ => ⟨S30x2048x1024, .i8⟩
  | _, _ => ⟨S30x2048x1024, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_call2_v0 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_c_14 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_c_16 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Proof.Exec.lean ====
/- Running a straight-line kernel body one memory access at a time. A body owns a fixed
   collection of buffers; `own σ` says what each of them holds. Every load and every store then
   has one rule, whichever buffer it addresses: `Slot` says how to take that buffer out of the
   collection and put it back. -/
module

public import Idealize.ShloMosaic.Lib.Pipeline
public import Idealize.ShloMosaic.Lib.Memref
public import Idealize.ShloMosaic.Rules.Step

@[expose] public section

noncomputable section

namespace Cert.Exec

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}
variable {Λ : Labels} [Preorder Lvl] {α : Type}

local notation "𝕄" => MT nD τ sig Ix Val Name U Lvl

/-! ## The rules of a load and a store on an owned memref -/

section Owns
variable {defs : Defs nD τ sig Val Λ} {𝒱 : Variants} {c : Thread nD τ} {E : Set Name}
variable {cs : CoreSpace} {s : Shape} {e : EltTy}

theorem wp_load_owns {m : Memref sig c.2.kind cs s e} {r : LoadRect s} {hl : m.view.LoadsAt r}
    {k : (r.shape.Idx → Val e) → Prog (TpuEff nD τ sig Val Λ c.2) α} {X : s.Idx → Val e} {Q : α → sProp 𝕄} :
    (owns c m fullShare X : sProp 𝕄)
      ⊢ iprop((owns c m fullShare X -∗ wp frame (wpE defs 𝒱 c none) E (k (fun x => X (r.idx x))) Q)
        -∗ wp frame (wpE defs 𝒱 c none) E (.op (.load m r hl) k) Q) := by
  unfold owns
  iintro ⟨%f, %hf, H⟩
  iintro HK
  subst hf
  iapply (wp_load (defs := defs) 𝒱 c none E (m := m) (r := r) (hl := hl) (k := k) (Q := Q) (f := f) (q := fullShare)
    (S := m.view.set) (m.view.setOn_subset_set _)) $$ H
  iintro H
  iapply HK
  iexists f
  isplitr
  · ipureintro; rfl
  · iexact H

theorem read_store {m : Memref sig c.2.kind cs s e} (r : Rect s) (f : m.view.ty.Contents Val) (w : r.shape.Idx → Val e) :
    m.view.read Val ((m.access r).write Val f w Finset.univ) = r.overlay (m.view.read Val f) w := by
  funext y
  by_cases hy : y ∈ r.set
  · rw [← Rect.map_emb_univ] at hy
    obtain ⟨x, -, rfl⟩ := Finset.mem_map.mp hy
    rw [Rect.overlay_emb]
    exact View.read_slice_write_emb r f w (Finset.mem_univ x)
  · rw [Rect.overlay_of_not_mem _ _ _ hy]
    exact View.read_slice_write_of_not_mem r f w _ (by rw [Rect.map_emb_univ]; exact hy)

theorem wp_store_owns {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} {Q : α → sProp 𝕄} :
    (owns c m fullShare X : sProp 𝕄)
      ⊢ iprop((owns c m fullShare (r.overlay X w) -∗ wp frame (wpE defs 𝒱 c none) E (k ⟨⟩) Q)
        -∗ wp frame (wpE defs 𝒱 c none) E (.op (.store m r w Finset.univ hx hm) k) Q) := by
  unfold owns
  iintro ⟨%f, %hf, H⟩
  iintro HK
  subst hf
  iapply (wp_store (defs := defs) 𝒱 c none E (m := m) (r := r) (w := w) (hx := hx) (hm := hm) (k := k) (Q := Q) (f := f)
    (S := m.view.set) (by
      rw [View.setOn_univ]; exact View.set_slice_subset m.view r)) $$ H
  iintro H
  iapply HK
  iexists ((m.access r).write Val f w Finset.univ)
  isplitr
  · ipureintro; exact read_store r f w
  · iexact H

end Owns

/-! ## With the contents forgotten -/

section Safe
variable (own : sProp (MT nD τ sig Ix Val Name U Lvl)) (defs : Defs nD τ sig Val Λ) (𝒱 : Variants) (c : Thread nD τ) (E : Set Name)

/-- From the collection, the program runs and gives the collection back. -/
def Safe (p : Prog (TpuEff nD τ sig Val Λ c.2) α) : Prop := own ⊢ (wp frame (wpE defs 𝒱 c none) E p (fun _ => own) : sProp 𝕄)

/-- The memref is one of the collection. -/
class SafeSlot {sp : Space} {s : Shape} {e : EltTy} (m : Memref sig c.2.kind sp s e) : Prop where
  take : own ⊢ (iprop(∃ X, owns c m fullShare X ∗ ∀ X', owns c m fullShare X' -∗ own) : sProp 𝕄)

variable {own defs 𝒱 c E}
variable {cs : CoreSpace} {s : Shape} {e : EltTy}

theorem Safe.ret {a : α} : Safe own defs 𝒱 c E (.ret a) := by
  unfold Safe; rw [wp_ret]; iintro H; imodintro; iexact H

theorem Safe.load {m : Memref sig c.2.kind cs s e} [h : SafeSlot own c m] {r : LoadRect s} {hl : m.view.LoadsAt r}
    {k : (r.shape.Idx → Val e) → Prog (TpuEff nD τ sig Val Λ c.2) α} (hk : ∀ v, Safe own defs 𝒱 c E (k v)) :
    Safe own defs 𝒱 c E (.op (.load m r hl) k) := by
  unfold Safe
  refine h.take.trans ?_
  iintro ⟨%X, HX, HC⟩
  iapply (wp_load_owns (defs := defs) (𝒱 := 𝒱) (E := E)) $$ HX
  iintro HX
  iapply (show own ⊢ _ from hk (fun x => X (r.idx x)))
  iapply HC
  iexact HX

theorem Safe.store {m : Memref sig c.2.kind cs s e} [h : SafeSlot own c m] {r : Rect s} {w : r.shape.Idx → Val e}
    {hx : (m.access r).Stores Finset.univ} {hm : Finset.univ = Finset.univ ∨ ∀ a, r.stride a = 1}
    {k : PUnit → Prog (TpuEff nD τ sig Val Λ c.2) α} (hk : Safe own defs 𝒱 c E (k ⟨⟩)) :
    Safe own defs 𝒱 c E (.op (.store m r w Finset.univ hx hm) k) := by
  unfold Safe
  refine h.take.trans ?_
  iintro ⟨%X, HX, HC⟩
  iapply (wp_store_owns (defs := defs) (𝒱 := 𝒱) (E := E)) $$ HX
  iintro HX
  iapply (show own ⊢ _ from hk)
  iapply HC
  iexact HX

/-- A conditional at the head whose condition holds, or does not. -/
theorem Safe.dite_pos {p : Prop} [Decidable p] {t : p → Prog (TpuEff nD τ sig Val Λ c.2) α}
    {f : ¬p → Prog (TpuEff nD τ sig Val Λ c.2) α} (hp : p)
    (h : Safe own defs 𝒱 c E (t hp)) : Safe own defs 𝒱 c E (if h : p then t h else f h) := by
  rw [dif_pos hp]; exact h

theorem Safe.dite_neg {p : Prop} [Decidable p] {t : p → Prog (TpuEff nD τ sig Val Λ c.2) α}
    {f : ¬p → Prog (TpuEff nD τ sig Val Λ c.2) α} (hp : ¬p)
    (h : Safe own defs 𝒱 c E (f hp)) : Safe own defs 𝒱 c E (if h : p then t h else f h) := by
  rw [dif_neg hp]; exact h

end Safe

/-! ## With the contents tracked -/

section Runs
variable {St : Type} (own : St → sProp (MT nD τ sig Ix Val Name U Lvl)) (defs : Defs nD τ sig Val Λ) (𝒱 : Variants) (c : Thread nD τ) (E : Set Name)

/-- From the collection at `σ`, the program runs to `Φ`. -/
def Runs (p : Prog (TpuEff nD τ sig Val Λ c.2) α) (σ : St) (Φ : α → sProp 𝕄) : Prop :=
  own σ ⊢ (wp frame (wpE defs 𝒱 c none) E p Φ : sProp 𝕄)

/-- The memref is one of the collection, its contents read by `get`. -/
class ReadSlot {sp : Space} {s : Shape} {e : EltTy} (m : Memref sig c.2.kind sp s e) (get : outParam (St → s.Idx → Val e)) : Prop where
  take : ∀ σ, own σ ⊢ (iprop(owns c m fullShare (get σ) ∗ (owns c m fullShare (get σ) -∗ own σ)) : sProp 𝕄)

/-- The memref is one of the collection, its contents read by `get` and replaced by `set`. -/
class Slot {sp : Space} {s : Shape} {e : EltTy} (m : Memref sig c.2.kind sp s e) (get : outParam (St → s.Idx → Val e))
    (set : outParam (St → (s.Idx → Val e) → St)) : Prop where
  take : ∀ σ, own σ ⊢ (iprop(owns c m fullShare (get σ) ∗ (∀ X, owns c m fullShare X -∗ own (set σ X))) : sProp 𝕄)

variable {own defs 𝒱 c E}
variable {cs : CoreSpace} {s : Shape} {e : EltTy} {Φ : α → sProp (MT nD τ sig Ix Val Name U Lvl)} {σ : St}

theorem Runs.ret {a : α} (h : own σ ⊢ Φ a) : Runs own defs 𝒱 c E (.ret a) σ Φ := by
  unfold Runs; rw [wp_ret]; refine h.trans ?_; iintro H; imodintro; iexact H

theorem Runs.load {m : Memref sig c.2.kind cs s e} {get : St → s.Idx → Val e} [h : ReadSlot own c m get] {r : LoadRect s} {hl : m.view.LoadsAt r}
    {k : (r.shape.Idx → Val e) → Prog (TpuEff nD τ sig Val Λ c.2) α} (hk : Runs own defs 𝒱 c E (k (fun x => get σ (r.idx x))) σ Φ) :
    Runs own defs 𝒱 c E (.op (.load m r hl) k) σ Φ := by
  unfold Runs
  refine (h.take σ).trans ?_
  iintro ⟨HX, HC⟩
  iapply (wp_load_owns (defs := defs) (𝒱 := 𝒱) (E := E)) $$ HX
  iintro HX
  iapply (show own σ ⊢ _ from hk)
  iapply HC
  iexact HX

theorem Runs.store {m : Memref sig c.2.kind cs s e} {get : St → s.Idx → Val e} {set : St → (s.Idx → Val e) → St}
    [h : Slot own c m get set] {r : Rect s} {w : r.shape.Idx → Val e}
    {hx : (m.access r).Stores Finset.univ} {hm : Finset.univ = Finset.univ ∨ ∀ a, r.stride a = 1}
    {k : PUnit → Prog (TpuEff nD τ sig Val Λ c.2) α} (hk : Runs own defs 𝒱 c E (k ⟨⟩) (set σ (r.overlay (get σ) w)) Φ) :
    Runs own defs 𝒱 c E (.op (.store m r w Finset.univ hx hm) k) σ Φ := by
  unfold Runs
  refine (h.take σ).trans ?_
  iintro ⟨HX, HC⟩
  iapply (wp_store_owns (defs := defs) (𝒱 := 𝒱) (E := E)) $$ HX
  iintro HX
  iapply (show own (set σ (r.overlay (get σ) w)) ⊢ _ from hk)
  iapply HC
  iexact HX

theorem Runs.dite_pos {p : Prop} [Decidable p] {t : p → Prog (TpuEff nD τ sig Val Λ c.2) α}
    {f : ¬p → Prog (TpuEff nD τ sig Val Λ c.2) α} (hp : p)
    (h : Runs own defs 𝒱 c E (t hp) σ Φ) : Runs own defs 𝒱 c E (if h : p then t h else f h) σ Φ := by
  rw [dif_pos hp]; exact h

theorem Runs.dite_neg {p : Prop} [Decidable p] {t : p → Prog (TpuEff nD τ sig Val Λ c.2) α}
    {f : ¬p → Prog (TpuEff nD τ sig Val Λ c.2) α} (hp : ¬p)
    (h : Runs own defs 𝒱 c E (f hp) σ Φ) : Runs own defs 𝒱 c E (if h : p then t h else f h) σ Φ := by
  rw [dif_neg hp]; exact h

end Runs

end Cert.Exec

end
-- ==== Proof.KernelFrame.Body.lean ====
/- The kernel's body at any grid point runs and gives back every buffer it was given. Nothing is
   said here of what the buffers hold. -/
module

public import proofs.«01_k».proof.Proof.Gen.Kernel
public import proofs.«01_k».proof.Proof.Exec
public import Idealize.ShloMosaic.Lib.Pipeline.Frame

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exec

variable {F : FTy → Type} [FloatOps F] [BitOps F] [Facts]

local notation "𝕄" => MT nD τ sig Unit (Elt F) ℕ (UR sig nD τ) ℕ

/-- The variants: the body makes no unbounded call. -/
abbrev 𝒱₀ : Variants := Variants.none

/-- The fifteen buffers of the body, each at some contents. -/
def own (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32) : sProp 𝕄 :=
  iprop((∃ X, owns c.tc arg1 fullShare X) ∗ (∃ X, owns c.tc arg2 fullShare X) ∗ (∃ X, owns c.tc arg3 fullShare X) ∗ (∃ X, owns c.tc arg4 fullShare X) ∗ (∃ X, owns c.tc arg5 fullShare X) ∗ (∃ X, owns c.tc arg6 fullShare X) ∗ (∃ X, owns c.tc arg7 fullShare X) ∗ (∃ X, owns c.tc arg8 fullShare X) ∗ (∃ X, owns c.tc arg9 fullShare X) ∗ (∃ X, owns c.tc arg10 fullShare X) ∗ (∃ X, owns c.tc arg11 fullShare X) ∗ (∃ X, owns c.tc arg12 fullShare X) ∗ (∃ X, owns c.tc arg13 fullShare X) ∗ (∃ X, owns c.tc arg14 fullShare X) ∗ (∃ X, owns c.tc arg15 fullShare X))

section Slots
variable (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32)

instance slot1 : SafeSlot (own (F := F) c arg1 arg2 arg3 arg4 arg5 arg6 arg7 arg8 arg9 arg10 arg11 arg12 arg13 arg14 arg15) (c.tc : Thread nD τ) arg1 where
  take := by
    unfold own
    iintro ⟨H1, H2, H3, H4, H5, H6, H7, H8, H9, H10, H11, H12, H13, H14, H15⟩
    icases H1 with ⟨%X, H1⟩
    iexists X
    isplitl [H1]; · iexact H1
    iintro %X' H1
    isplitl [H1]; · iexists X'; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot2 : SafeSlot (own (F := F) c arg1 arg2 arg3 arg4 arg5 arg6 arg7 arg8 arg9 arg10 arg11 arg12 arg13 arg14 arg15) (c.tc : Thread nD τ) arg2 where
  take := by
    unfold own
    iintro ⟨H1, H2, H3, H4, H5, H6, H7, H8, H9, H10, H11, H12, H13, H14, H15⟩
    icases H2 with ⟨%X, H2⟩
    iexists X
    isplitl [H2]; · iexact H2
    iintro %X' H2
    isplitl [H1]; · iexact H1
    isplitl [H2]; · iexists X'; iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot3 : SafeSlot (own (F := F) c arg1 arg2 arg3 arg4 arg5 arg6 arg7 arg8 arg9 arg10 arg11 arg12 arg13 arg14 arg15) (c.tc : Thread nD τ) arg3 where
  take := by
    unfold own
    iintro ⟨H1, H2, H3, H4, H5, H6, H7, H8, H9, H10, H11, H12, H13, H14, H15⟩
    icases H3 with ⟨%X, H3⟩
    iexists X
    isplitl [H3]; · iexact H3
    iintro %X' H3
    isplitl [H1]; · iexact H1
    isplitl [H2]; · iexact H2
    isplitl [H3]; · iexists X'; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot4 : SafeSlot (own (F := F) c arg1 arg2 arg3 arg4 arg5 arg6 arg7 arg8 arg9 arg10 arg11 arg12 arg13 arg14 arg15) (c.tc : Thread nD τ) arg4 where
  take := by
    unfold own
    iintro ⟨H1, H2, H3, H4, H5, H6, H7, H8, H9, H10, H11, H12, H13, H14, H15⟩
    icases H4 with ⟨%X, H4⟩
    iexists X
    isplitl [H4]; · iexact H4
    iintro %X' H4
    isplitl [H1]; · iexact H1
    isplitl [H2]; · iexact H2
    isplitl [H3]; · iexact H3
    isplitl [H4]; · iexists X'; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot5 : SafeSlot (own (F := F) c arg1 arg2 arg3 arg4 arg5 arg6 arg7 arg8 arg9 arg10 arg11 arg12 arg13 arg14 arg15) (c.tc : Thread nD τ) arg5 where
  take := by
    unfold own
    iintro ⟨H1, H2, H3, H4, H5, H6, H7, H8, H9, H10, H11, H12, H13, H14, H15⟩
    icases H5 with ⟨%X, H5⟩
    iexists X
    isplitl [H5]; · iexact H5
    iintro %X' H5
    isplitl [H1]; · iexact H1
    isplitl [H2]; · iexact H2
    isplitl [H3]; · iexact H3
    isplitl [H4]; · iexact H4
    isplitl [H5]; · iexists X'; iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot6 : SafeSlot (own (F := F) c arg1 arg2 arg3 arg4 arg5 arg6 arg7 arg8 arg9 arg10 arg11 arg12 arg13 arg14 arg15) (c.tc : Thread nD τ) arg6 where
  take := by
    unfold own
    iintro ⟨H1, H2, H3, H4, H5, H6, H7, H8, H9, H10, H11, H12, H13, H14, H15⟩
    icases H6 with ⟨%X, H6⟩
    iexists X
    isplitl [H6]; · iexact H6
    iintro %X' H6
    isplitl [H1]; · iexact H1
    isplitl [H2]; · iexact H2
    isplitl [H3]; · iexact H3
    isplitl [H4]; · iexact H4
    isplitl [H5]; · iexact H5
    isplitl [H6]; · iexists X'; iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot7 : SafeSlot (own (F := F) c arg1 arg2 arg3 arg4 arg5 arg6 arg7 arg8 arg9 arg10 arg11 arg12 arg13 arg14 arg15) (c.tc : Thread nD τ) arg7 where
  take := by
    unfold own
    iintro ⟨H1, H2, H3, H4, H5, H6, H7, H8, H9, H10, H11, H12, H13, H14, H15⟩
    icases H7 with ⟨%X, H7⟩
    iexists X
    isplitl [H7]; · iexact H7
    iintro %X' H7
    isplitl [H1]; · iexact H1
    isplitl [H2]; · iexact H2
    isplitl [H3]; · iexact H3
    isplitl [H4]; · iexact H4
    isplitl [H5]; · iexact H5
    isplitl [H6]; · iexact H6
    isplitl [H7]; · iexists X'; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot8 : SafeSlot (own (F := F) c arg1 arg2 arg3 arg4 arg5 arg6 arg7 arg8 arg9 arg10 arg11 arg12 arg13 arg14 arg15) (c.tc : Thread nD τ) arg8 where
  take := by
    unfold own
    iintro ⟨H1, H2, H3, H4, H5, H6, H7, H8, H9, H10, H11, H12, H13, H14, H15⟩
    icases H8 with ⟨%X, H8⟩
    iexists X
    isplitl [H8]; · iexact H8
    iintro %X' H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists X'; iexact H8
    isplitl [H9]; · iexact H9
    isplitl [H10]; · iexact H10
    isplitl [H11]; · iexact H11
    isplitl [H12]; · iexact H12
    isplitl [H13]; · iexact H13
    isplitl [H14]; · iexact H14
    iexact H15

instance slot9 : SafeSlot (own (F := F) c arg1 arg2 arg3 arg4 arg5 arg6 arg7 arg8 arg9 arg10 arg11 arg12 arg13 arg14 arg15) (c.tc : Thread nD τ) arg9 where
  take := by
    unfold own
    iintro ⟨H1, H2, H3, H4, H5, H6, H7, H8, H9, H10, H11, H12, H13, H14, H15⟩
    icases H9 with ⟨%X, H9⟩
    iexists X
    isplitl [H9]; · iexact H9
    iintro %X' H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists X'; iexact H9
    isplitl [H10]; · iexact H10
    isplitl [H11]; · iexact H11
    isplitl [H12]; · iexact H12
    isplitl [H13]; · iexact H13
    isplitl [H14]; · iexact H14
    iexact H15

instance slot10 : SafeSlot (own (F := F) c arg1 arg2 arg3 arg4 arg5 arg6 arg7 arg8 arg9 arg10 arg11 arg12 arg13 arg14 arg15) (c.tc : Thread nD τ) arg10 where
  take := by
    unfold own
    iintro ⟨H1, H2, H3, H4, H5, H6, H7, H8, H9, H10, H11, H12, H13, H14, H15⟩
    icases H10 with ⟨%X, H10⟩
    iexists X
    isplitl [H10]; · iexact H10
    iintro %X' H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X'; iexact H10
    isplitl [H11]; · iexact H11
    isplitl [H12]; · iexact H12
    isplitl [H13]; · iexact H13
    isplitl [H14]; · iexact H14
    iexact H15

instance slot11 : SafeSlot (own (F := F) c arg1 arg2 arg3 arg4 arg5 arg6 arg7 arg8 arg9 arg10 arg11 arg12 arg13 arg14 arg15) (c.tc : Thread nD τ) arg11 where
  take := by
    unfold own
    iintro ⟨H1, H2, H3, H4, H5, H6, H7, H8, H9, H10, H11, H12, H13, H14, H15⟩
    icases H11 with ⟨%X, H11⟩
    iexists X
    isplitl [H11]; · iexact H11
    iintro %X' H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists X'; iexact H11
    isplitl [H12]; · iexact H12
    isplitl [H13]; · iexact H13
    isplitl [H14]; · iexact H14
    iexact H15

instance slot12 : SafeSlot (own (F := F) c arg1 arg2 arg3 arg4 arg5 arg6 arg7 arg8 arg9 arg10 arg11 arg12 arg13 arg14 arg15) (c.tc : Thread nD τ) arg12 where
  take := by
    unfold own
    iintro ⟨H1, H2, H3, H4, H5, H6, H7, H8, H9, H10, H11, H12, H13, H14, H15⟩
    icases H12 with ⟨%X, H12⟩
    iexists X
    isplitl [H12]; · iexact H12
    iintro %X' H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists X'; iexact H12
    isplitl [H13]; · iexact H13
    isplitl [H14]; · iexact H14
    iexact H15

instance slot13 : SafeSlot (own (F := F) c arg1 arg2 arg3 arg4 arg5 arg6 arg7 arg8 arg9 arg10 arg11 arg12 arg13 arg14 arg15) (c.tc : Thread nD τ) arg13 where
  take := by
    unfold own
    iintro ⟨H1, H2, H3, H4, H5, H6, H7, H8, H9, H10, H11, H12, H13, H14, H15⟩
    icases H13 with ⟨%X, H13⟩
    iexists X
    isplitl [H13]; · iexact H13
    iintro %X' H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists X'; iexact H13
    isplitl [H14]; · iexact H14
    iexact H15

instance slot14 : SafeSlot (own (F := F) c arg1 arg2 arg3 arg4 arg5 arg6 arg7 arg8 arg9 arg10 arg11 arg12 arg13 arg14 arg15) (c.tc : Thread nD τ) arg14 where
  take := by
    unfold own
    iintro ⟨H1, H2, H3, H4, H5, H6, H7, H8, H9, H10, H11, H12, H13, H14, H15⟩
    icases H14 with ⟨%X, H14⟩
    iexists X
    isplitl [H14]; · iexact H14
    iintro %X' H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists X'; iexact H14
    iexact H15

instance slot15 : SafeSlot (own (F := F) c arg1 arg2 arg3 arg4 arg5 arg6 arg7 arg8 arg9 arg10 arg11 arg12 arg13 arg14 arg15) (c.tc : Thread nD τ) arg15 where
  take := by
    unfold own
    iintro ⟨H1, H2, H3, H4, H5, H6, H7, H8, H9, H10, H11, H12, H13, H14, H15⟩
    icases H15 with ⟨%X, H15⟩
    iexists X
    isplitl [H15]; · iexact H15
    iintro %X' H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists X'; iexact H15

end Slots

set_option maxHeartbeats 0 in
/-- At the first point: only the first tile is merged. -/
theorem safe_first (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : Scalar.cmpi .ne (Scalar.extui (Scalar.cmpi .eq (BitVec.ofNat 32 (i 0).val) 0#32) : BitVec 32) 0#32 = 1#1) (h2 : ¬k0_cond2 i = 1#1) (h3 : ¬k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_pos h1
  repeat (
    conv => arg 6; whnf
    first
    | with_reducible refine Safe.load fun _ => ?_
    | with_reducible refine Safe.store ?_)
  apply Safe.dite_neg h2
  apply Safe.dite_neg h3
  repeat (
    conv => arg 6; whnf
    first
    | with_reducible refine Safe.load fun _ => ?_
    | with_reducible refine Safe.store ?_)
  exact Safe.ret

set_option maxHeartbeats 0 in
/-- At a point between: the previous tile is finished and this one merged. -/
theorem safe_mid (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : k0_cond2 i = 1#1) (h3 : ¬k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_neg h1
  apply Safe.dite_pos h2
  repeat (
    conv => arg 6; whnf
    first
    | with_reducible refine Safe.load fun _ => ?_
    | with_reducible refine Safe.store ?_)
  apply Safe.dite_neg h3
  repeat (
    conv => arg 6; whnf
    first
    | with_reducible refine Safe.load fun _ => ?_
    | with_reducible refine Safe.store ?_)
  exact Safe.ret

set_option maxHeartbeats 0 in
/-- At the last point: only the previous tile is finished. -/
theorem safe_last (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : ¬k0_cond2 i = 1#1) (h3 : k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_neg h1
  apply Safe.dite_neg h2
  apply Safe.dite_pos h3
  repeat (
    conv => arg 6; whnf
    first
    | with_reducible refine Safe.load fun _ => ?_
    | with_reducible refine Safe.store ?_)
  exact Safe.ret

end Cert.Kernel.Body

end
-- ==== Proof.KernelFrame.Frame.lean ====
/- The kernel's frame: from any memory the program runs, its arguments end unchanged and every
   semaphore counter ends at zero. The launch takes the body at each grid point (`Body`), every
   staging buffer and every scratch buffer at contents nothing is said of. -/
module

public import proofs.«01_k».proof.Proof.Gen.Kernel.Frame
public import proofs.«01_k».proof.Proof.KernelFrame.Body

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Exec

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-- Which of the three branches a grid point takes. -/
theorem conds : ∀ t : Fin grid0.N,
    ((Scalar.cmpi .ne (Scalar.extui (Scalar.cmpi .eq (BitVec.ofNat 32 (grid0.coords t 0).val) 0#32) : BitVec 32) 0#32 = 1#1)
        ∧ ¬k0_cond2 (grid0.coords t) = 1#1 ∧ ¬k0_cond3 (grid0.coords t) = 1#1)
    ∨ ((¬Scalar.cmpi .ne (Scalar.extui (Scalar.cmpi .eq (BitVec.ofNat 32 (grid0.coords t 0).val) 0#32) : BitVec 32) 0#32 = 1#1)
        ∧ k0_cond2 (grid0.coords t) = 1#1 ∧ ¬k0_cond3 (grid0.coords t) = 1#1)
    ∨ ((¬Scalar.cmpi .ne (Scalar.extui (Scalar.cmpi .eq (BitVec.ofNat 32 (grid0.coords t 0).val) 0#32) : BitVec 32) 0#32 = 1#1)
        ∧ ¬k0_cond2 (grid0.coords t) = 1#1 ∧ k0_cond3 (grid0.coords t) = 1#1) := by
  decide +kernel

/-- The body at any point, on the buffers the pipeline calls it with. -/
theorem safe_at (c : Dev nD) (t : Fin cfg0.N) :
    Safe (own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7))
      defs₀ 𝒱₀ (c.tc : Thread nD τ) Set.univ (Gen.bodyAt0 t) := by
  rcases conds t with ⟨h1, h2, h3⟩ | ⟨h1, h2, h3⟩ | ⟨h1, h2, h3⟩
  · exact safe_first c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3
  · exact safe_mid c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3
  · exact safe_last c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3

/-- The proof data: every window forgotten, the invariant that of a scratch at any contents. -/
def dats (_ : Fin 1) (c : Dev nD) : Dat τ (Elt F) Unit ℕ (UR sig nD τ) ℕ cfg0 c where
  A w := Gen.V m c (Pipeline.arrRef spec0 w)
  after := Dat.unnamed
  Φ _ := Pipeline.ΦA spec0 c
  q _ := fullShare
  owed _ := 0

theorem A_eq (c : Dev nD) (w : Fin cfg0.W) : (dats m 0 c).A w = Gen.V m c (Pipeline.arrRef spec0 w) := by dsimp only [dats]

abbrev all : Fin cfg0.W → Bool := fun _ => true

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) 𝒱₀ () Set.univ all := fun t => by
  rw [Gen.bigSep_W0, defs₀_row]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [Gen.scopedRest0_eq]
  refine .trans (Q := iprop(own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) ∗ (∃ r, prngReg c r) ∗ (dats m 0 c).owesAt () t.castSucc)) ?_ ?_
  · unfold own
    simp only [owns_whole]
    iintro ⟨⟨⟨S0, S1, S2, S3, S4, S5, S6, S7⟩, HR⟩, HO, W0, W1, W2, W3, W4, W5, W6⟩
    isplitl [S0 S1 S2 S3 S4 S5 S6 S7 W0 W1 W2 W3 W4 W5 W6]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [HR]; · iexact HR
    iexact HO
  · refine (sep_mono (show own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) ⊢ _ from safe_at (F := F) c t) .rfl).trans ((wp_frame_r _ _ _).trans (wp_mono _ _ _ fun _ => ?_))
    unfold own
    simp only [owns_whole]
    iintro ⟨⟨W0, W1, W2, W3, W4, W5, W6, S0, S1, S2, S3, S4, S5, S6, S7⟩, HR, HO⟩
    isplitl [S0 S1 S2 S3 S4 S5 S6 S7 HR]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact HR
    isplitl [HO]; · iexact HO
    isplitl [W0]; · iexact W0
    isplitl [W1]; · iexact W1
    isplitl [W2]; · iexact W2
    isplitl [W3]; · iexact W3
    isplitl [W4]; · iexact W4
    isplitl [W5]; · iexact W5
    iexact W6

set_option backward.isDefEq.respectTransparency.types false in
/-- The run: every final state has each argument array at its launch contents and every semaphore counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have h := Pipeline.θ_run_frame_forget
    (Q' := fun r => Pipeline.RDat.FramePost (cfgs 0) (fun c => (dats (F := F) m 0 c).toRForget all) (Gen.V m) r ∧ r.2.sem = fun _ => 0)
    cfgs (dats m) (0 : Fin 1) Gen.launch0 defs₀ 𝒱₀ all m ρ main
    (hbody := fun c => (body_obligation m c).loose) (hshare := fun c => (dats (F := F) m 0 c).share_full fun _ => rfl)
    (howed := fun _ _ => rfl) (V := Gen.V m) (hmain := Gen.hmain m 𝒱₀) (hA := A_eq m) (hΦ := fun _ _ => rfl)
    (hQ' := fun _ h => h)
  refine (θ_run defs _ _).mono (fun r hr => ⟨fun c => ⟨?_, ?_, ?_, ?_, ?_⟩, hr.2⟩) h
  · exact ((Pipeline.RDat.FramePost.arr_in hr.1 c 0 rfl).trans (A_eq m c 0)).trans (Gen.V_main_arg0 m c)
  · exact ((Pipeline.RDat.FramePost.arr_in hr.1 c 1 rfl).trans (A_eq m c 1)).trans (Gen.V_main_arg1 m c)
  · exact ((hr.1 c).2 main_arg2 (Pipeline.mem_restRefs_of main_arg2 (by decide) (by decide))).trans (Gen.V_main_arg2 m c)
  · exact ((Pipeline.RDat.FramePost.arr_in hr.1 c 3 rfl).trans (A_eq m c 3)).trans (Gen.V_main_arg3 m c)
  · exact ((hr.1 c).2 main_arg4 (Pipeline.mem_restRefs_of main_arg4 (by decide) (by decide))).trans (Gen.V_main_arg4 m c)

end Cert.Kernel.Body

end
-- ==== Proof.KernelIdealFrame.Body.lean ====
/- The kernel's body at any grid point runs and gives back every buffer it was given. Nothing is
   said here of what the buffers hold. -/
module

public import proofs.«01_k».proof.Proof.Gen.KernelIdeal
public import proofs.«01_k».proof.Proof.Exec
public import Idealize.ShloMosaic.Lib.Pipeline.Frame

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exec

variable {F : FTy → Type} [FloatOps F] [Facts]

local notation "𝕄" => MT nD τ sig Unit (Elt F) ℕ (UR sig nD τ) ℕ

/-- The variants: the body makes no unbounded call. -/
abbrev 𝒱₀ : Variants := Variants.none

/-- The fifteen buffers of the body, each at some contents. -/
def own (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32) : sProp 𝕄 :=
  iprop((∃ X, owns c.tc arg1 fullShare X) ∗ (∃ X, owns c.tc arg2 fullShare X) ∗ (∃ X, owns c.tc arg3 fullShare X) ∗ (∃ X, owns c.tc arg4 fullShare X) ∗ (∃ X, owns c.tc arg5 fullShare X) ∗ (∃ X, owns c.tc arg6 fullShare X) ∗ (∃ X, owns c.tc arg7 fullShare X) ∗ (∃ X, owns c.tc arg8 fullShare X) ∗ (∃ X, owns c.tc arg9 fullShare X) ∗ (∃ X, owns c.tc arg10 fullShare X) ∗ (∃ X, owns c.tc arg11 fullShare X) ∗ (∃ X, owns c.tc arg12 fullShare X) ∗ (∃ X, owns c.tc arg13 fullShare X) ∗ (∃ X, owns c.tc arg14 fullShare X) ∗ (∃ X, owns c.tc arg15 fullShare X))

section Slots
variable (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32)

instance slot1 : SafeSlot (own (F := F) c arg1 arg2 arg3 arg4 arg5 arg6 arg7 arg8 arg9 arg10 arg11 arg12 arg13 arg14 arg15) (c.tc : Thread nD τ) arg1 where
  take := by
    unfold own
    iintro ⟨H1, H2, H3, H4, H5, H6, H7, H8, H9, H10, H11, H12, H13, H14, H15⟩
    icases H1 with ⟨%X, H1⟩
    iexists X
    isplitl [H1]; · iexact H1
    iintro %X' H1
    isplitl [H1]; · iexists X'; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot2 : SafeSlot (own (F := F) c arg1 arg2 arg3 arg4 arg5 arg6 arg7 arg8 arg9 arg10 arg11 arg12 arg13 arg14 arg15) (c.tc : Thread nD τ) arg2 where
  take := by
    unfold own
    iintro ⟨H1, H2, H3, H4, H5, H6, H7, H8, H9, H10, H11, H12, H13, H14, H15⟩
    icases H2 with ⟨%X, H2⟩
    iexists X
    isplitl [H2]; · iexact H2
    iintro %X' H2
    isplitl [H1]; · iexact H1
    isplitl [H2]; · iexists X'; iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot3 : SafeSlot (own (F := F) c arg1 arg2 arg3 arg4 arg5 arg6 arg7 arg8 arg9 arg10 arg11 arg12 arg13 arg14 arg15) (c.tc : Thread nD τ) arg3 where
  take := by
    unfold own
    iintro ⟨H1, H2, H3, H4, H5, H6, H7, H8, H9, H10, H11, H12, H13, H14, H15⟩
    icases H3 with ⟨%X, H3⟩
    iexists X
    isplitl [H3]; · iexact H3
    iintro %X' H3
    isplitl [H1]; · iexact H1
    isplitl [H2]; · iexact H2
    isplitl [H3]; · iexists X'; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot4 : SafeSlot (own (F := F) c arg1 arg2 arg3 arg4 arg5 arg6 arg7 arg8 arg9 arg10 arg11 arg12 arg13 arg14 arg15) (c.tc : Thread nD τ) arg4 where
  take := by
    unfold own
    iintro ⟨H1, H2, H3, H4, H5, H6, H7, H8, H9, H10, H11, H12, H13, H14, H15⟩
    icases H4 with ⟨%X, H4⟩
    iexists X
    isplitl [H4]; · iexact H4
    iintro %X' H4
    isplitl [H1]; · iexact H1
    isplitl [H2]; · iexact H2
    isplitl [H3]; · iexact H3
    isplitl [H4]; · iexists X'; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot5 : SafeSlot (own (F := F) c arg1 arg2 arg3 arg4 arg5 arg6 arg7 arg8 arg9 arg10 arg11 arg12 arg13 arg14 arg15) (c.tc : Thread nD τ) arg5 where
  take := by
    unfold own
    iintro ⟨H1, H2, H3, H4, H5, H6, H7, H8, H9, H10, H11, H12, H13, H14, H15⟩
    icases H5 with ⟨%X, H5⟩
    iexists X
    isplitl [H5]; · iexact H5
    iintro %X' H5
    isplitl [H1]; · iexact H1
    isplitl [H2]; · iexact H2
    isplitl [H3]; · iexact H3
    isplitl [H4]; · iexact H4
    isplitl [H5]; · iexists X'; iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot6 : SafeSlot (own (F := F) c arg1 arg2 arg3 arg4 arg5 arg6 arg7 arg8 arg9 arg10 arg11 arg12 arg13 arg14 arg15) (c.tc : Thread nD τ) arg6 where
  take := by
    unfold own
    iintro ⟨H1, H2, H3, H4, H5, H6, H7, H8, H9, H10, H11, H12, H13, H14, H15⟩
    icases H6 with ⟨%X, H6⟩
    iexists X
    isplitl [H6]; · iexact H6
    iintro %X' H6
    isplitl [H1]; · iexact H1
    isplitl [H2]; · iexact H2
    isplitl [H3]; · iexact H3
    isplitl [H4]; · iexact H4
    isplitl [H5]; · iexact H5
    isplitl [H6]; · iexists X'; iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot7 : SafeSlot (own (F := F) c arg1 arg2 arg3 arg4 arg5 arg6 arg7 arg8 arg9 arg10 arg11 arg12 arg13 arg14 arg15) (c.tc : Thread nD τ) arg7 where
  take := by
    unfold own
    iintro ⟨H1, H2, H3, H4, H5, H6, H7, H8, H9, H10, H11, H12, H13, H14, H15⟩
    icases H7 with ⟨%X, H7⟩
    iexists X
    isplitl [H7]; · iexact H7
    iintro %X' H7
    isplitl [H1]; · iexact H1
    isplitl [H2]; · iexact H2
    isplitl [H3]; · iexact H3
    isplitl [H4]; · iexact H4
    isplitl [H5]; · iexact H5
    isplitl [H6]; · iexact H6
    isplitl [H7]; · iexists X'; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot8 : SafeSlot (own (F := F) c arg1 arg2 arg3 arg4 arg5 arg6 arg7 arg8 arg9 arg10 arg11 arg12 arg13 arg14 arg15) (c.tc : Thread nD τ) arg8 where
  take := by
    unfold own
    iintro ⟨H1, H2, H3, H4, H5, H6, H7, H8, H9, H10, H11, H12, H13, H14, H15⟩
    icases H8 with ⟨%X, H8⟩
    iexists X
    isplitl [H8]; · iexact H8
    iintro %X' H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists X'; iexact H8
    isplitl [H9]; · iexact H9
    isplitl [H10]; · iexact H10
    isplitl [H11]; · iexact H11
    isplitl [H12]; · iexact H12
    isplitl [H13]; · iexact H13
    isplitl [H14]; · iexact H14
    iexact H15

instance slot9 : SafeSlot (own (F := F) c arg1 arg2 arg3 arg4 arg5 arg6 arg7 arg8 arg9 arg10 arg11 arg12 arg13 arg14 arg15) (c.tc : Thread nD τ) arg9 where
  take := by
    unfold own
    iintro ⟨H1, H2, H3, H4, H5, H6, H7, H8, H9, H10, H11, H12, H13, H14, H15⟩
    icases H9 with ⟨%X, H9⟩
    iexists X
    isplitl [H9]; · iexact H9
    iintro %X' H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists X'; iexact H9
    isplitl [H10]; · iexact H10
    isplitl [H11]; · iexact H11
    isplitl [H12]; · iexact H12
    isplitl [H13]; · iexact H13
    isplitl [H14]; · iexact H14
    iexact H15

instance slot10 : SafeSlot (own (F := F) c arg1 arg2 arg3 arg4 arg5 arg6 arg7 arg8 arg9 arg10 arg11 arg12 arg13 arg14 arg15) (c.tc : Thread nD τ) arg10 where
  take := by
    unfold own
    iintro ⟨H1, H2, H3, H4, H5, H6, H7, H8, H9, H10, H11, H12, H13, H14, H15⟩
    icases H10 with ⟨%X, H10⟩
    iexists X
    isplitl [H10]; · iexact H10
    iintro %X' H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X'; iexact H10
    isplitl [H11]; · iexact H11
    isplitl [H12]; · iexact H12
    isplitl [H13]; · iexact H13
    isplitl [H14]; · iexact H14
    iexact H15

instance slot11 : SafeSlot (own (F := F) c arg1 arg2 arg3 arg4 arg5 arg6 arg7 arg8 arg9 arg10 arg11 arg12 arg13 arg14 arg15) (c.tc : Thread nD τ) arg11 where
  take := by
    unfold own
    iintro ⟨H1, H2, H3, H4, H5, H6, H7, H8, H9, H10, H11, H12, H13, H14, H15⟩
    icases H11 with ⟨%X, H11⟩
    iexists X
    isplitl [H11]; · iexact H11
    iintro %X' H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists X'; iexact H11
    isplitl [H12]; · iexact H12
    isplitl [H13]; · iexact H13
    isplitl [H14]; · iexact H14
    iexact H15

instance slot12 : SafeSlot (own (F := F) c arg1 arg2 arg3 arg4 arg5 arg6 arg7 arg8 arg9 arg10 arg11 arg12 arg13 arg14 arg15) (c.tc : Thread nD τ) arg12 where
  take := by
    unfold own
    iintro ⟨H1, H2, H3, H4, H5, H6, H7, H8, H9, H10, H11, H12, H13, H14, H15⟩
    icases H12 with ⟨%X, H12⟩
    iexists X
    isplitl [H12]; · iexact H12
    iintro %X' H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists X'; iexact H12
    isplitl [H13]; · iexact H13
    isplitl [H14]; · iexact H14
    iexact H15

instance slot13 : SafeSlot (own (F := F) c arg1 arg2 arg3 arg4 arg5 arg6 arg7 arg8 arg9 arg10 arg11 arg12 arg13 arg14 arg15) (c.tc : Thread nD τ) arg13 where
  take := by
    unfold own
    iintro ⟨H1, H2, H3, H4, H5, H6, H7, H8, H9, H10, H11, H12, H13, H14, H15⟩
    icases H13 with ⟨%X, H13⟩
    iexists X
    isplitl [H13]; · iexact H13
    iintro %X' H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists X'; iexact H13
    isplitl [H14]; · iexact H14
    iexact H15

instance slot14 : SafeSlot (own (F := F) c arg1 arg2 arg3 arg4 arg5 arg6 arg7 arg8 arg9 arg10 arg11 arg12 arg13 arg14 arg15) (c.tc : Thread nD τ) arg14 where
  take := by
    unfold own
    iintro ⟨H1, H2, H3, H4, H5, H6, H7, H8, H9, H10, H11, H12, H13, H14, H15⟩
    icases H14 with ⟨%X, H14⟩
    iexists X
    isplitl [H14]; · iexact H14
    iintro %X' H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists X'; iexact H14
    iexact H15

instance slot15 : SafeSlot (own (F := F) c arg1 arg2 arg3 arg4 arg5 arg6 arg7 arg8 arg9 arg10 arg11 arg12 arg13 arg14 arg15) (c.tc : Thread nD τ) arg15 where
  take := by
    unfold own
    iintro ⟨H1, H2, H3, H4, H5, H6, H7, H8, H9, H10, H11, H12, H13, H14, H15⟩
    icases H15 with ⟨%X, H15⟩
    iexists X
    isplitl [H15]; · iexact H15
    iintro %X' H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists X'; iexact H15

end Slots

set_option maxHeartbeats 0 in
/-- At the first point: only the first tile is merged. -/
theorem safe_first (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : Scalar.cmpi .ne (Scalar.extui (Scalar.cmpi .eq (BitVec.ofNat 32 (i 0).val) 0#32) : BitVec 32) 0#32 = 1#1) (h2 : ¬k0_cond2 i = 1#1) (h3 : ¬k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_pos h1
  repeat (
    conv => arg 6; whnf
    first
    | with_reducible refine Safe.load fun _ => ?_
    | with_reducible refine Safe.store ?_)
  apply Safe.dite_neg h2
  apply Safe.dite_neg h3
  repeat (
    conv => arg 6; whnf
    first
    | with_reducible refine Safe.load fun _ => ?_
    | with_reducible refine Safe.store ?_)
  exact Safe.ret

set_option maxHeartbeats 0 in
/-- At a point between: the previous tile is finished and this one merged. -/
theorem safe_mid (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : k0_cond2 i = 1#1) (h3 : ¬k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_neg h1
  apply Safe.dite_pos h2
  repeat (
    conv => arg 6; whnf
    first
    | with_reducible refine Safe.load fun _ => ?_
    | with_reducible refine Safe.store ?_)
  apply Safe.dite_neg h3
  repeat (
    conv => arg 6; whnf
    first
    | with_reducible refine Safe.load fun _ => ?_
    | with_reducible refine Safe.store ?_)
  exact Safe.ret

set_option maxHeartbeats 0 in
/-- At the last point: only the previous tile is finished. -/
theorem safe_last (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : ¬k0_cond2 i = 1#1) (h3 : k0_cond3 i = 1#1) :
    Safe (own (F := F) c arg1 arg2 arg3 arg4 arg5 arg6 arg7 arg8 arg9 arg10 arg11 arg12 arg13 arg14 arg15) defs₀ 𝒱₀ (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold cc0_dora
  apply Safe.dite_neg h1
  apply Safe.dite_neg h2
  apply Safe.dite_pos h3
  repeat (
    conv => arg 6; whnf
    first
    | with_reducible refine Safe.load fun _ => ?_
    | with_reducible refine Safe.store ?_)
  exact Safe.ret

end Cert.KernelIdeal.Body

end
-- ==== Proof.KernelIdealFrame.Frame.lean ====
/- The kernel's frame: from any memory the program runs, its arguments end unchanged and every
   semaphore counter ends at zero. The launch takes the body at each grid point (`Body`), every
   staging buffer and every scratch buffer at contents nothing is said of. -/
module

public import proofs.«01_k».proof.Proof.Gen.KernelIdeal.Frame
public import proofs.«01_k».proof.Proof.KernelIdealFrame.Body

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Exec

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which of the three branches a grid point takes. -/
theorem conds : ∀ t : Fin grid0.N,
    ((Scalar.cmpi .ne (Scalar.extui (Scalar.cmpi .eq (BitVec.ofNat 32 (grid0.coords t 0).val) 0#32) : BitVec 32) 0#32 = 1#1)
        ∧ ¬k0_cond2 (grid0.coords t) = 1#1 ∧ ¬k0_cond3 (grid0.coords t) = 1#1)
    ∨ ((¬Scalar.cmpi .ne (Scalar.extui (Scalar.cmpi .eq (BitVec.ofNat 32 (grid0.coords t 0).val) 0#32) : BitVec 32) 0#32 = 1#1)
        ∧ k0_cond2 (grid0.coords t) = 1#1 ∧ ¬k0_cond3 (grid0.coords t) = 1#1)
    ∨ ((¬Scalar.cmpi .ne (Scalar.extui (Scalar.cmpi .eq (BitVec.ofNat 32 (grid0.coords t 0).val) 0#32) : BitVec 32) 0#32 = 1#1)
        ∧ ¬k0_cond2 (grid0.coords t) = 1#1 ∧ k0_cond3 (grid0.coords t) = 1#1) := by
  decide +kernel

/-- The body at any point, on the buffers the pipeline calls it with. -/
theorem safe_at (c : Dev nD) (t : Fin cfg0.N) :
    Safe (own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7))
      defs₀ 𝒱₀ (c.tc : Thread nD τ) Set.univ (Gen.bodyAt0 t) := by
  rcases conds t with ⟨h1, h2, h3⟩ | ⟨h1, h2, h3⟩ | ⟨h1, h2, h3⟩
  · exact safe_first c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3
  · exact safe_mid c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3
  · exact safe_last c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3

/-- The proof data: every window forgotten, the invariant that of a scratch at any contents. -/
def dats (_ : Fin 1) (c : Dev nD) : Dat τ (Elt F) Unit ℕ (UR sig nD τ) ℕ cfg0 c where
  A w := Gen.V m c (Pipeline.arrRef spec0 w)
  after := Dat.unnamed
  Φ _ := Pipeline.ΦA spec0 c
  q _ := fullShare
  owed _ := 0

theorem A_eq (c : Dev nD) (w : Fin cfg0.W) : (dats m 0 c).A w = Gen.V m c (Pipeline.arrRef spec0 w) := by dsimp only [dats]

abbrev all : Fin cfg0.W → Bool := fun _ => true

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) 𝒱₀ () Set.univ all := fun t => by
  rw [Gen.bigSep_W0, defs₀_row]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [Gen.scopedRest0_eq]
  refine .trans (Q := iprop(own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) ∗ (∃ r, prngReg c r) ∗ (dats m 0 c).owesAt () t.castSucc)) ?_ ?_
  · unfold own
    simp only [owns_whole]
    iintro ⟨⟨⟨S0, S1, S2, S3, S4, S5, S6, S7⟩, HR⟩, HO, W0, W1, W2, W3, W4, W5, W6⟩
    isplitl [S0 S1 S2 S3 S4 S5 S6 S7 W0 W1 W2 W3 W4 W5 W6]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [HR]; · iexact HR
    iexact HO
  · refine (sep_mono (show own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) ⊢ _ from safe_at (F := F) c t) .rfl).trans ((wp_frame_r _ _ _).trans (wp_mono _ _ _ fun _ => ?_))
    unfold own
    simp only [owns_whole]
    iintro ⟨⟨W0, W1, W2, W3, W4, W5, W6, S0, S1, S2, S3, S4, S5, S6, S7⟩, HR, HO⟩
    isplitl [S0 S1 S2 S3 S4 S5 S6 S7 HR]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact HR
    isplitl [HO]; · iexact HO
    isplitl [W0]; · iexact W0
    isplitl [W1]; · iexact W1
    isplitl [W2]; · iexact W2
    isplitl [W3]; · iexact W3
    isplitl [W4]; · iexact W4
    isplitl [W5]; · iexact W5
    iexact W6

set_option backward.isDefEq.respectTransparency.types false in
/-- The run: every final state has each argument array at its launch contents and every semaphore counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have h := Pipeline.θ_run_frame_forget
    (Q' := fun r => Pipeline.RDat.FramePost (cfgs 0) (fun c => (dats (F := F) m 0 c).toRForget all) (Gen.V m) r ∧ r.2.sem = fun _ => 0)
    cfgs (dats m) (0 : Fin 1) Gen.launch0 defs₀ 𝒱₀ all m ρ main
    (hbody := fun c => (body_obligation m c).loose) (hshare := fun c => (dats (F := F) m 0 c).share_full fun _ => rfl)
    (howed := fun _ _ => rfl) (V := Gen.V m) (hmain := Gen.hmain m 𝒱₀) (hA := A_eq m) (hΦ := fun _ _ => rfl)
    (hQ' := fun _ h => h)
  refine (θ_run defs _ _).mono (fun r hr => ⟨fun c => ⟨?_, ?_, ?_, ?_, ?_⟩, hr.2⟩) h
  · exact ((Pipeline.RDat.FramePost.arr_in hr.1 c 0 rfl).trans (A_eq m c 0)).trans (Gen.V_main_arg0 m c)
  · exact ((Pipeline.RDat.FramePost.arr_in hr.1 c 1 rfl).trans (A_eq m c 1)).trans (Gen.V_main_arg1 m c)
  · exact ((hr.1 c).2 main_arg2 (Pipeline.mem_restRefs_of main_arg2 (by decide) (by decide))).trans (Gen.V_main_arg2 m c)
  · exact ((Pipeline.RDat.FramePost.arr_in hr.1 c 3 rfl).trans (A_eq m c 3)).trans (Gen.V_main_arg3 m c)
  · exact ((hr.1 c).2 main_arg4 (Pipeline.mem_restRefs_of main_arg4 (by decide) (by decide))).trans (Gen.V_main_arg4 m c)

end Cert.KernelIdeal.Body

end
-- ==== Proof.Value.Finite.lean ====
/- What the precondition says of the arguments: the factors are real numbers and the scales are real numbers, none zero. -/
module

public import proofs.«01_k».proof.Pre_finite_inputs
public import Idealize.ShloMosaic.Lib.Pointwise

@[expose] public section

set_option maxRecDepth 16384

noncomputable section

namespace Cert.Pre_finite_inputs

open Idealize.ShloMosaic Idealize.ShloMosaic.TcCoe

theorem bcast1 : S_.BroadcastsInDim S30x32x1024 (![] : Fin 0 → Fin S30x32x1024.rank) := by decide
theorem bcast2 : S_.BroadcastsInDim S30x4096x8 (![] : Fin 0 → Fin S30x4096x8.rank) := by decide
theorem bcast3 : S_.BroadcastsInDim S30x8x1024 (![] : Fin 0 → Fin S30x8x1024.rank) := by decide
theorem reduces1 : S30x32x1024.ReducesTo [0, 1, 2] S_ := by decide
theorem reduces2 : S30x4096x8.ReducesTo [0, 1, 2] S_ := by decide
theorem reduces3 : S30x8x1024.ReducesTo [0, 1, 2] S_ := by decide

/-- The side conditions of the precondition's operations. -/
instance facts : Facts where
  bitsLt_bf16_f32 := by decide
  bcast_S_S30x32x1024 := bcast1
  reducesTo_S30x32x1024_S_d0_1_2 := reduces1
  h_S_ := by decide
  bcast_S_S30x4096x8 := bcast2
  reducesTo_S30x4096x8_S_d0_1_2 := reduces2
  bcast_S_S30x8x1024 := bcast3
  reducesTo_S30x8x1024_S_d0_1_2 := reduces3

theorem and_one : ∀ a b : BitVec 1, IntOp.andi a b = 1#1 → a = 1#1 ∧ b = 1#1 := by decide

/-- A conjunction over a set is true only if every member is. -/
theorem fold_one {ι : Type} (s : Finset ι) (f : ι → BitVec 1) (b : BitVec 1) (h : s.fold IntOp.andi b f = 1#1) : ∀ i ∈ s, f i = 1#1 := by
  classical
  induction s using Finset.induction_on with
  | empty => intro i hi; simp at hi
  | insert a s ha ih =>
    rw [Finset.fold_insert ha] at h
    obtain ⟨h1, h2⟩ := and_one _ _ h
    intro i hi
    rcases Finset.mem_insert.1 hi with rfl | hi
    · exact h1
    · exact ih h2 i hi

/-- A conjunction over every axis is true only if every entry is. -/
theorem all_one {s : Shape} {axes : List (Fin s.rank)} (x : IVec s 1) (v : IVec S_ 1) (h : s.ReducesTo axes S_) (hu : 0 < S_.numel) (j : S_.Idx)
    (e : Host.reduce IntOp.andi x v h hu j = 1#1) (i : s.Idx) : x i = 1#1 := by
  rw [Host.reduce_eq_fold] at e
  refine fold_one _ _ _ e i (Finset.mem_filter.2 ⟨Finset.mem_univ _, ?_⟩)
  funext a
  exact a.elim0

theorem top_bits : Ideal.ofBits FTy.f32 0x7F800000#32 = ⊤ := by simp [Ideal.ofBits, Ideal.ieee]
theorem zero_bits : Ideal.ofBits FTy.f32 0x00000000#32 = 0 := by simp [Ideal.ofBits, Ideal.ieee]

/-- A magnitude below infinity is that of a real number. -/
theorem real_of_lt (x : EReal) (h : Ideal.cmp .olt (max x (-x)) (Ideal.ofBits FTy.f32 0x7F800000#32) = 1#1) : ∃ r : ℝ, x = r := by
  rw [top_bits] at h
  have h' : max x (-x) < ⊤ := by
    by_contra hn
    simp [Ideal.cmp, hn] at h
  induction x with
  | bot => simp at h'
  | coe r => exact ⟨r, rfl⟩
  | top => simp at h'

/-- A magnitude above zero is not that of zero. -/
theorem ne_zero_of_gt (x : EReal) (h : Ideal.cmp .ogt (max x (-x)) (Ideal.ofBits FTy.f32 0x00000000#32) = 1#1) : x ≠ 0 := by
  rintro rfl
  rw [zero_bits] at h
  simp [Ideal.cmp] at h

/-- The precondition, read entry by entry. -/
theorem finite_of (x0 : IVec S30x2048x1024 8) (x1 : FVec Ideal S30x32x1024 .bf16) (x2 : FVec Ideal S30x4096x8 .bf16) (x3 : FVec Ideal S30x8x1024 .bf16) (x4 : FVec Ideal S30x1024 .bf16)
    (h : fn (F := Ideal) x0 x1 x2 x3 x4 = fun _ => 1#1) :
    (∀ i, ∃ r : ℝ, r ≠ 0 ∧ (x1 i : EReal) = r) ∧ (∀ i, ∃ r : ℝ, (x2 i : EReal) = r) ∧ ∀ i, ∃ r : ℝ, (x3 i : EReal) = r := by
  have e := congrFun h (fun a => a.elim0)
  obtain ⟨e12, e3⟩ := and_one _ _ e
  obtain ⟨e1, e2⟩ := and_one _ _ e12
  refine ⟨fun i => ?_, fun i => real_of_lt _ (all_one _ _ _ _ _ e2 i), fun i => real_of_lt _ (all_one _ _ _ _ _ e3 i)⟩
  obtain ⟨u, w⟩ := and_one _ _ (all_one _ _ _ _ _ e1 i)
  obtain ⟨r, hr⟩ := real_of_lt (x1 i) u
  refine ⟨r, fun h0 => ne_zero_of_gt (x1 i) w ?_, hr⟩
  rw [hr, h0]; rfl

end Cert.Pre_finite_inputs

end
-- ==== Proof.ExecAt.lean ====
/- A run of a straight-line body with a counter: `RunsAt n` is `Runs`, and `n` says how many steps of
   a repeated phase have passed, so that the state after each of them is named by one function of it. -/
module

public import proofs.«01_k».proof.Proof.Exec

@[expose] public section

noncomputable section

namespace Cert.Exec

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}
variable {Λ : Labels} [Preorder Lvl] {α : Type}

local notation "𝕄" => MT nD τ sig Ix Val Name U Lvl

variable {St : Type}

/-- A memref whose contents may be replaced may be read. -/
theorem ReadSlot.of_slot {own : St → sProp (MT nD τ sig Ix Val Name U Lvl)} {c : Thread nD τ} {sp : Space} {s : Shape} {e : EltTy}
    {m : Memref sig c.2.kind sp s e} {get : St → s.Idx → Val e} {set : St → (s.Idx → Val e) → St}
    (h : Slot own c m get set) (hs : ∀ σ, set σ (get σ) = σ) : ReadSlot own c m get where
  take σ := by
    refine (h.take σ).trans ?_
    iintro ⟨HX, HC⟩
    isplitl [HX]; · iexact HX
    iintro HX
    rw [show own σ = own (set σ (get σ)) by rw [hs]]
    iapply HC
    iexact HX

/-- `Runs`, `n` steps of the current phase passed. -/
def RunsAt (_ : ℕ) (own : St → sProp (MT nD τ sig Ix Val Name U Lvl)) (defs : Defs nD τ sig Val Λ) (𝒱 : Variants) (c : Thread nD τ) (E : Set Name)
    (p : Prog (TpuEff nD τ sig Val Λ c.2) α) (σ : St) (Φ : α → sProp (MT nD τ sig Ix Val Name U Lvl)) : Prop :=
  Runs own defs 𝒱 c E p σ Φ

variable {n : ℕ} {own : St → sProp (MT nD τ sig Ix Val Name U Lvl)} {defs : Defs nD τ sig Val Λ} {𝒱 : Variants} {c : Thread nD τ} {E : Set Name}
variable {cs : CoreSpace} {s : Shape} {e : EltTy} {Φ : α → sProp (MT nD τ sig Ix Val Name U Lvl)} {σ σ' : St}
variable {q : Prog (TpuEff nD τ sig Val Λ c.2) α}

/-- The states of a phase: `g` done for `0`, …, `n - 1`. -/
def iter (g : ℕ → St → St) (σ : St) : ℕ → St
  | 0 => σ
  | n + 1 => g n (iter g σ n)

/-- The state reached is given a name. -/
theorem RunsAt.name (σ' : St) (h : σ = σ') (hk : ∀ σ₁, σ₁ = σ' → RunsAt 0 own defs 𝒱 c E q σ₁ Φ) : RunsAt n own defs 𝒱 c E q σ Φ := by
  subst h; exact hk σ rfl

/-- One more step of the phase is passed, and the state reached is given a name. -/
theorem RunsAt.step {g : ℕ → St → St} {σ₀ σ₁ : St} (h₁ : σ₁ = iter g σ₀ n) (h : σ = g n σ₁)
    (hk : ∀ σ₂, σ₂ = iter g σ₀ (n + 1) → RunsAt (n + 1) own defs 𝒱 c E q σ₂ Φ) : RunsAt n own defs 𝒱 c E q σ Φ := by
  subst h; subst h₁; exact hk _ rfl

/-- A new phase. -/
theorem RunsAt.reset (hk : RunsAt 0 own defs 𝒱 c E q σ Φ) : RunsAt n own defs 𝒱 c E q σ Φ := hk

theorem RunsAt.ret {a : α} (h : own σ ⊢ Φ a) : RunsAt n own defs 𝒱 c E (.ret a) σ Φ := Runs.ret h

theorem RunsAt.load {m : Memref sig c.2.kind cs s e} {get : St → s.Idx → Val e} [h : ReadSlot own c m get] {r : LoadRect s} {hl : m.view.LoadsAt r}
    {k : (r.shape.Idx → Val e) → Prog (TpuEff nD τ sig Val Λ c.2) α} (hk : RunsAt n own defs 𝒱 c E (k (fun x => get σ (r.idx x))) σ Φ) :
    RunsAt n own defs 𝒱 c E (.op (.load m r hl) k) σ Φ := Runs.load hk

theorem RunsAt.store {m : Memref sig c.2.kind cs s e} {get : St → s.Idx → Val e} {set : St → (s.Idx → Val e) → St}
    [h : Slot own c m get set] {r : Rect s} {w : r.shape.Idx → Val e}
    {hx : (m.access r).Stores Finset.univ} {hm : Finset.univ = Finset.univ ∨ ∀ a, r.stride a = 1}
    {k : PUnit → Prog (TpuEff nD τ sig Val Λ c.2) α} (hk : RunsAt n own defs 𝒱 c E (k ⟨⟩) (set σ (r.overlay (get σ) w)) Φ) :
    RunsAt n own defs 𝒱 c E (.op (.store m r w Finset.univ hx hm) k) σ Φ := Runs.store (h := h) hk

theorem RunsAt.dite_pos {p : Prop} [Decidable p] {t : p → Prog (TpuEff nD τ sig Val Λ c.2) α}
    {f : ¬p → Prog (TpuEff nD τ sig Val Λ c.2) α} (hp : p)
    (h : RunsAt n own defs 𝒱 c E (t hp) σ Φ) : RunsAt n own defs 𝒱 c E (if h : p then t h else f h) σ Φ := Runs.dite_pos hp h

theorem RunsAt.dite_neg {p : Prop} [Decidable p] {t : p → Prog (TpuEff nD τ sig Val Λ c.2) α}
    {f : ¬p → Prog (TpuEff nD τ sig Val Λ c.2) α} (hp : ¬p)
    (h : RunsAt n own defs 𝒱 c E (f hp) σ Φ) : RunsAt n own defs 𝒱 c E (if h : p then t h else f h) σ Φ := Runs.dite_neg hp h

end Cert.Exec

end
-- ==== Proof.Value.Spec.lean ====
/- What the kernel's body does to its buffers, step by step: the contents of every buffer the body
   writes are one state `St`, and each phase of the body is a function on that state, written with the
   body's own vector operations. A phase that the body repeats (a group of rows, a column block) is one
   function of the group or the block. -/
module

public import proofs.«01_k».proof.Proof.Gen.KernelIdeal
public import proofs.«01_k».proof.Proof.ExecAt

@[expose] public section

set_option maxRecDepth 16384

noncomputable section

namespace Cert.KernelIdeal.Value

open Idealize.ShloMosaic Idealize.ShloMosaic.TcCoe
open Facts₀ Facts
open Cert.Exec (iter)

variable {F : FTy → Type} [FloatOps F] [Facts]

/-- The contents of the buffers the body only reads: codes, scales, the A factor of every group twice over, the B
    factor, and the magnitudes of the tile before. -/
structure In (F : FTy → Type) where
  q : Vec F S1x2048x512 .i8
  sc : Vec F S1x32x512 .bf16
  a : Vec F S1x512x128 .bf16
  b : Vec F S1x8x512 .bf16
  m : Vec F S1x1x512 .bf16

/-- The contents of the buffers the body writes: the eight scratch buffers and the two results. -/
structure St (F : FTy → Type) where
  oc : Vec F S1x2048x512 .i8
  os : Vec F S1x32x512 .bf16
  eye : Vec F S128x128 .bf16
  u : Vec F S4096x512 .f32
  mx : Vec F S4x256x128 .f32
  w : Vec F S4x256x128 .f32
  dd : Vec F S4x8x128 .f32
  rho : Vec F S4x32x128 .f32
  s : Vec F S4x32x128 .f32
  is : Vec F S4x32x128 .f32

/-! ## In-range facts at a symbolic position -/

theorem inb_row (j g : ℕ) : ∀ a, (![j % 4, g % 32, 0] : Fin 3 → ℕ) a + S1x1x128.size a ≤ S4x32x128.size a :=
  fun a => match a with
  | ⟨0, _⟩ => by show j % 4 + 1 ≤ 4; omega
  | ⟨1, _⟩ => by show g % 32 + 1 ≤ 32; omega
  | ⟨2, _⟩ => by show 0 + 128 ≤ 128; omega

theorem inb_plane (j : ℕ) : ∀ a, (![j % 4, 0, 0] : Fin 3 → ℕ) a + S1x32x128.size a ≤ S4x32x128.size a :=
  fun a => match a with
  | ⟨0, _⟩ => by show j % 4 + 1 ≤ 4; omega
  | ⟨1, _⟩ => by show 0 + 32 ≤ 32; omega
  | ⟨2, _⟩ => by show 0 + 128 ≤ 128; omega

theorem inb_dplane (j : ℕ) : ∀ a, (![j % 4, 0, 0] : Fin 3 → ℕ) a + S1x8x128.size a ≤ S4x8x128.size a :=
  fun a => match a with
  | ⟨0, _⟩ => by show j % 4 + 1 ≤ 4; omega
  | ⟨1, _⟩ => by show 0 + 8 ≤ 8; omega
  | ⟨2, _⟩ => by show 0 + 128 ≤ 128; omega

theorem inb_scol (j : ℕ) : ∀ a, (![0, 0, 128 * (j % 4)] : Fin 3 → ℕ) a + S1x32x128.size a ≤ S1x32x512.size a :=
  fun a => match a with
  | ⟨0, _⟩ => by show 0 + 1 ≤ 1; omega
  | ⟨1, _⟩ => by show 0 + 32 ≤ 32; omega
  | ⟨2, _⟩ => by show 128 * (j % 4) + 128 ≤ 512; omega

theorem inb_mcol (j : ℕ) : ∀ a, (![0, 0, 128 * (j % 4)] : Fin 3 → ℕ) a + S1x1x128.size a ≤ S1x1x512.size a :=
  fun a => match a with
  | ⟨0, _⟩ => by show 0 + 1 ≤ 1; omega
  | ⟨1, _⟩ => by show 0 + 1 ≤ 1; omega
  | ⟨2, _⟩ => by show 128 * (j % 4) + 128 ≤ 512; omega

theorem inb_a (g : ℕ) : ∀ a, (![0, 16 * (g % 32), 0] : Fin 3 → ℕ) a + S1x16x128.size a ≤ S1x512x128.size a :=
  fun a => match a with
  | ⟨0, _⟩ => by show 0 + 1 ≤ 1; omega
  | ⟨1, _⟩ => by show 16 * (g % 32) + 16 ≤ 512; omega
  | ⟨2, _⟩ => by show 0 + 128 ≤ 128; omega

theorem inb_q (g : ℕ) : ∀ a, (![0, 64 * (g % 32), 0] : Fin 3 → ℕ) a + S1x64x512.size a ≤ S1x2048x512.size a :=
  fun a => match a with
  | ⟨0, _⟩ => by show 0 + 1 ≤ 1; omega
  | ⟨1, _⟩ => by show 64 * (g % 32) + 64 ≤ 2048; omega
  | ⟨2, _⟩ => by show 0 + 512 ≤ 512; omega

theorem inb_u (g : ℕ) : ∀ a, (![128 * (g % 32), 0] : Fin 2 → ℕ) a + S128x512.size a ≤ S4096x512.size a :=
  fun a => match a with
  | ⟨0, _⟩ => by show 128 * (g % 32) + 128 ≤ 4096; omega
  | ⟨1, _⟩ => by show 0 + 512 ≤ 512; omega

theorem inb_mx (j g : ℕ) : ∀ a, (![j % 4, 8 * (g % 32), 0] : Fin 3 → ℕ) a + S1x8x128.size a ≤ S4x256x128.size a :=
  fun a => match a with
  | ⟨0, _⟩ => by show j % 4 + 1 ≤ 4; omega
  | ⟨1, _⟩ => by show 8 * (g % 32) + 8 ≤ 256; omega
  | ⟨2, _⟩ => by show 0 + 128 ≤ 128; omega

theorem inb_lane (j r : ℕ) : ∀ a, S1x32x128.size a = 0 ∨
    (![j % 4, r % 8, 0] : Fin 3 → ℕ) a + (![1, 8, 1] : Fin 3 → ℕ) a * (S1x32x128.size a - 1) < S4x256x128.size a :=
  fun a => match a with
  | ⟨0, _⟩ => by right; show j % 4 + 1 * (1 - 1) < 4; omega
  | ⟨1, _⟩ => by right; show r % 8 + 8 * (32 - 1) < 256; omega
  | ⟨2, _⟩ => by right; show 0 + 1 * (128 - 1) < 128; omega

theorem sl_8 (k j : ℕ) : S128x512.Slices ![8 * (k % 16), 128 * (j % 4)] S8x128 :=
  ⟨rfl, fun a => match a with
  | ⟨0, _⟩ => by show 8 * (k % 16) + 8 ≤ 128; omega
  | ⟨1, _⟩ => by show 128 * (j % 4) + 128 ≤ 512; omega⟩

theorem sl_16 (k j : ℕ) : S128x512.Slices ![16 * (k % 8), 128 * (j % 4)] S16x128 :=
  ⟨rfl, fun a => match a with
  | ⟨0, _⟩ => by show 16 * (k % 8) + 16 ≤ 128; omega
  | ⟨1, _⟩ => by show 128 * (j % 4) + 128 ≤ 512; omega⟩

theorem sl_t (j : ℕ) : S144x512.Slices ![128, 128 * (j % 4)] S8x128 :=
  ⟨rfl, fun a => match a with
  | ⟨0, _⟩ => by show 128 + 8 ≤ 144; omega
  | ⟨1, _⟩ => by show 128 * (j % 4) + 128 ≤ 512; omega⟩

theorem sl_b (j : ℕ) : S8x512.Slices ![0, 128 * (j % 4)] S8x128 :=
  ⟨rfl, fun a => match a with
  | ⟨0, _⟩ => by show 0 + 8 ≤ 8; omega
  | ⟨1, _⟩ => by show 128 * (j % 4) + 128 ≤ 512; omega⟩

theorem sl_g (gl : ℕ) : S64x128.Slices ![16 * (gl % 4), 0] S8x128 :=
  ⟨rfl, fun a => match a with
  | ⟨0, _⟩ => by show 16 * (gl % 4) + 8 ≤ 64; omega
  | ⟨1, _⟩ => by show 0 + 128 ≤ 128; omega⟩

/-! ## Rows of a `[4, 32, 128]` buffer -/

/-- Row `g` of column block `j`. -/
def ldRow (X : Vec F S4x32x128 .f32) (j g : ℕ) : FVec F S1x128 .f32 :=
  shapeCast S1x128 (fun x => X ((Rect.unit (s := S4x32x128) ![j % 4, g % 32, 0] S1x1x128.size (inb_row j g)).toLoadRect.idx x)
    : Vec F S1x1x128 .f32) shapeCasts_S1x1x128_S1x128

/-- Row `g` of the four column blocks side by side. -/
def rowOf (X : Vec F S4x32x128 .f32) (g : ℕ) : FVec F S1x512 .f32 :=
  concatenate S1x512 1 [⟨S1x128, ldRow X 0 g⟩, ⟨S1x128, ldRow X 1 g⟩, ⟨S1x128, ldRow X 2 g⟩, ⟨S1x128, ldRow X 3 g⟩]
    concatenates_S1x128_S1x128_S1x128_S1x128_S1x512_d1

/-! ## The identity matrix -/

def eyeVal : FVec F S128x128 .bf16 :=
  truncf .bf16 (sitofp .f32 (extui 32 (cmpi .eq (iota .tc S128x128 32 [0] iota_S128x128_d0_w32)
    (iota .tc S128x128 32 [1] iota_S128x128_d1_w32)) natLt_1_32)) bitsLt_bf16_f32

def eyeStep (σ : St F) : St F :=
  { σ with
    eye := (Rect.unit (s := S128x128) ![0, 0] S128x128.size inb_S128x128_S128x128_0_0).overlay σ.eye
      (shapeCast S128x128 (eyeVal (F := F)) shapeCasts_S128x128_S128x128) }

/-! ## The scales of a tile and their inverses -/

def scVal (I : In F) (j : ℕ) : FVec F S32x128 .f32 :=
  extf .f32 (shapeCast S32x128 (fun x => I.sc ((Rect.unit (s := S1x32x512) ![0, 0, 128 * (j % 4)] S1x32x128.size (inb_scol j)).toLoadRect.idx x)
    : Vec F S1x32x128 .bf16) shapeCasts_S1x32x128_S32x128) bitsLt_bf16_f32

def isVal (I : In F) (j : ℕ) : FVec F S32x128 .f32 :=
  divf (broadcast S32x128 (Scalar.ofBits .f32 0x3F800000#32)) (scVal I j)

def setupStep (I : In F) (j : ℕ) (σ : St F) : St F :=
  { σ with
    s := (Rect.unit (s := S4x32x128) ![j % 4, 0, 0] S1x32x128.size (inb_plane j)).overlay σ.s
      (shapeCast S1x32x128 (scVal I j) shapeCasts_S32x128_S1x32x128)
    is := (Rect.unit (s := S4x32x128) ![j % 4, 0, 0] S1x32x128.size (inb_plane j)).overlay σ.is
      (shapeCast S1x32x128 (isVal I j) shapeCasts_S32x128_S1x32x128) }

/-! ## The B factor, the A factors and their Gram matrix -/

/-- Half the B factor. -/
def bh (I : In F) : FVec F S8x512 .f32 :=
  mulf (extf .f32 (shapeCast S8x512 (fun x => I.b ((Rect.unit (s := S1x8x512) ![0, 0, 0] S1x8x512.size inb_S1x8x512_S1x8x512_0_0_0).toLoadRect.idx x)
    : Vec F S1x8x512 .bf16) shapeCasts_S1x8x512_S8x512) bitsLt_bf16_f32) (broadcast S8x512 (Scalar.ofBits .f32 0x3F000000#32))

/-- The A factor of group `g`, transposed and twice over. -/
def aOf (I : In F) (g : ℕ) : FVec F S16x128 .bf16 :=
  shapeCast S16x128 (fun x => I.a ((Rect.unit (s := S1x512x128) ![0, 16 * (g % 32), 0] S1x16x128.size (inb_a g)).toLoadRect.idx x)
    : Vec F S1x16x128 .bf16) shapeCasts_S1x16x128_S16x128

/-- The A factors of four groups, each four times over, side by side. -/
def tile (I : In F) (t : ℕ) : FVec F S128x128 .bf16 :=
  transpose S128x128 [1, 0] (concatenate S128x128 0 [⟨S16x128, aOf I (4 * t)⟩, ⟨S16x128, aOf I (4 * t)⟩,
    ⟨S16x128, aOf I (4 * t + 1)⟩, ⟨S16x128, aOf I (4 * t + 1)⟩, ⟨S16x128, aOf I (4 * t + 2)⟩, ⟨S16x128, aOf I (4 * t + 2)⟩,
    ⟨S16x128, aOf I (4 * t + 3)⟩, ⟨S16x128, aOf I (4 * t + 3)⟩]
    concatenates_S16x128_S16x128_S16x128_S16x128_S16x128_S16x128_S16x128_S16x128_S128x128_d0) transposes_S128x128_p1_0_S128x128

/-- The transposed A factors of the groups of one residue modulo four, side by side. -/
def aRow (I : In F) (gl : ℕ) : FVec F S16x1024 .bf16 :=
  concatenate S16x1024 1 [⟨S16x128, aOf I (4 * 0 + gl)⟩, ⟨S16x128, aOf I (4 * 1 + gl)⟩, ⟨S16x128, aOf I (4 * 2 + gl)⟩,
    ⟨S16x128, aOf I (4 * 3 + gl)⟩, ⟨S16x128, aOf I (4 * 4 + gl)⟩, ⟨S16x128, aOf I (4 * 5 + gl)⟩, ⟨S16x128, aOf I (4 * 6 + gl)⟩,
    ⟨S16x128, aOf I (4 * 7 + gl)⟩] concatenates_S16x128_S16x128_S16x128_S16x128_S16x128_S16x128_S16x128_S16x128_S16x1024_d1

def gram (I : In F) : FVec F S64x128 .f32 :=
  matmul dot_S64x1024_S1024x128_S64x128_1_0_0_1_n_n none
    (concatenate S64x1024 0 [⟨S16x1024, aRow I 0⟩, ⟨S16x1024, aRow I 1⟩, ⟨S16x1024, aRow I 2⟩, ⟨S16x1024, aRow I 3⟩]
      concatenates_S16x1024_S16x1024_S16x1024_S16x1024_S64x1024_d0)
    (concatenate S1024x128 0 [⟨S128x128, tile I 0⟩, ⟨S128x128, tile I 1⟩, ⟨S128x128, tile I 2⟩, ⟨S128x128, tile I 3⟩,
      ⟨S128x128, tile I 4⟩, ⟨S128x128, tile I 5⟩, ⟨S128x128, tile I 6⟩, ⟨S128x128, tile I 7⟩]
      concatenates_S128x128_S128x128_S128x128_S128x128_S128x128_S128x128_S128x128_S128x128_S1024x128_d0)
    (constant S64x128 .f32 0x00000000#32)

/-- Eight rows of the Gram matrix, kept on the columns `lo ≤ c < hi`. -/
def gramPart (G : FVec F S64x128 .f32) (gl : ℕ) (lo hi : BitVec 32) : FVec F S8x128 .f32 :=
  select (andi (cmpi .sge (iota .tc S8x128 32 [1] iota_S8x128_d1_w32) (broadcast S8x128 lo))
      (cmpi .slt (iota .tc S8x128 32 [1] iota_S8x128_d1_w32) (broadcast S8x128 hi)))
    (extractStridedSlice S8x128 ![16 * (gl % 4), 0] G (sl_g gl)) (broadcast S8x128 (Scalar.ofBits .f32 0x00000000#32))

def gramSum (I : In F) : FVec F S8x128 .f32 :=
  addf (addf (addf (addf (broadcast S8x128 (Scalar.ofBits .f32 0x00000000#32)) (gramPart (gram I) 0 0#32 8#32))
    (gramPart (gram I) 1 32#32 40#32)) (gramPart (gram I) 2 64#32 72#32)) (gramPart (gram I) 3 96#32 104#32)

/-- A vector cut in three parts, the second and the third what the first leaves. -/
def hiOf {s : Shape} (x : FVec F s .f32) : FVec F s .f32 := extf .f32 (truncf .bf16 x)
def midOf {s : Shape} (x : FVec F s .f32) : FVec F s .f32 := hiOf (subf x (hiOf x))
def loOf {s : Shape} (x : FVec F s .f32) : FVec F s .f32 := subf (subf x (hiOf x)) (midOf x)

/-- Eight rows over eight rows of zeros. -/
def pad8 (x : FVec F S8x128 .f32) : FVec F S16x128 .bf16 :=
  truncf .bf16 (concatenate S16x128 0 [⟨S8x128, x⟩, ⟨S8x128, broadcast S8x128 (Scalar.ofBits .f32 0x00000000#32)⟩]
    concatenates_S8x128_S8x128_S16x128_d0) bitsLt_bf16_f32

def bq (I : In F) : FVec F S128x512 .bf16 :=
  truncf .bf16 (concatenate S128x512 0 [⟨S8x512, bh I⟩, ⟨S24x512, broadcast S24x512 (Scalar.ofBits .f32 0x00000000#32)⟩,
    ⟨S8x512, bh I⟩, ⟨S24x512, broadcast S24x512 (Scalar.ofBits .f32 0x00000000#32)⟩,
    ⟨S8x512, bh I⟩, ⟨S24x512, broadcast S24x512 (Scalar.ofBits .f32 0x00000000#32)⟩,
    ⟨S8x512, bh I⟩, ⟨S24x512, broadcast S24x512 (Scalar.ofBits .f32 0x00000000#32)⟩]
    concatenates_S8x512_S24x512_S8x512_S24x512_S8x512_S24x512_S8x512_S24x512_S128x512_d0) bitsLt_bf16_f32

/-- The Gram matrix applied to half the B factor. -/
def gb (I : In F) : FVec F S16x512 .f32 :=
  matmul dot_S16x384_S384x512_S16x512_1_0_0_1_n_n none
    (concatenate S16x384 1 [⟨S16x128, pad8 (hiOf (gramSum I))⟩, ⟨S16x128, pad8 (midOf (gramSum I))⟩, ⟨S16x128, pad8 (loOf (gramSum I))⟩]
      concatenates_S16x128_S16x128_S16x128_S16x384_d1)
    (concatenate S384x512 0 [⟨S128x512, bq I⟩, ⟨S128x512, bq I⟩, ⟨S128x512, bq I⟩]
      concatenates_S128x512_S128x512_S128x512_S384x512_d0)
    (constant S16x512 .f32 0x00000000#32)

def ddVal (I : In F) : FVec F S8x512 .f32 :=
  mulf (extractStridedSlice S8x512 ![0, 0] (gb I) slices_S16x512_o0_0_S8x512) (bh I)

/-- The first `n` column blocks of `ddVal` stored. -/
def ddN (I : In F) (X : Vec F S4x8x128 .f32) : ℕ → Vec F S4x8x128 .f32
  | 0 => X
  | j + 1 => (Rect.unit (s := S4x8x128) ![j % 4, 0, 0] S1x8x128.size (inb_dplane j)).overlay (ddN I X j)
      (shapeCast S1x8x128 (extractStridedSlice S8x128 ![0, 128 * (j % 4)] (ddVal I) (sl_b j)) shapeCasts_S8x128_S1x8x128)

def gramStep (I : In F) (σ : St F) : St F := { σ with dd := ddN I σ.dd 4 }

/-! ## The merge of one group -/

/-- The codes of group `g` as bytes. -/
def bytes (I : In F) (g : ℕ) : IVec S64x512 32 :=
  extui 32 (shapeCast S64x512 (fun x => I.q ((Rect.unit (s := S1x2048x512) ![0, 64 * (g % 32), 0] S1x64x512.size (inb_q g)).toLoadRect.idx x)
    : Vec F S1x64x512 .i8) shapeCasts_S1x64x512_S64x512 : IVec S64x512 8) natLt_8_32

/-- The two halves of every byte, one row after the other. -/
def nibbles (v : IVec S64x512 32) : IVec S128x512 32 :=
  shapeCast S128x512 (concatenate S64x2x512 1 [⟨S64x1x512, shapeCast S64x1x512 (andi v (broadcast S64x512 15#32)) shapeCasts_S64x512_S64x1x512⟩,
    ⟨S64x1x512, shapeCast S64x1x512 (shrsi v (broadcast S64x512 4#32)) shapeCasts_S64x512_S64x1x512⟩]
    concatenates_S64x1x512_S64x1x512_S64x2x512_d1) shapeCasts_S64x2x512_S128x512

/-- The codes of group `g` as numbers. -/
def qVal (I : In F) (g : ℕ) : FVec F S128x512 .bf16 :=
  sitofp .bf16 (trunci 4 (select (cmpi .sge (nibbles (bytes I g)) (broadcast S128x512 8#32))
    (subi (nibbles (bytes I g)) (broadcast S128x512 16#32)) (nibbles (bytes I g))) natLt_4_32)

/-- Half the B factor over the scales of group `g`. -/
def bs (I : In F) (is : Vec F S4x32x128 .f32) (g : ℕ) : FVec F S8x512 .f32 :=
  mulf (bh I) (broadcastTo S8x512 (rowOf is g) broadcasts_S1x512_S8x512)

def z16 : FVec F S16x512 .bf16 := broadcast S16x512 (Scalar.ofBits .bf16 0x0000#16)

/-- The `k`-th block of sixteen rows under the codes. -/
def aux (x : FVec F S8x512 .f32) (gl k : ℕ) : FVec F S16x512 .bf16 :=
  bif Nat.beq k (2 * (gl % 4)) then
    truncf .bf16 (concatenate S16x512 0 [⟨S8x512, hiOf x⟩, ⟨S8x512, midOf x⟩] concatenates_S8x512_S8x512_S16x512_d0) bitsLt_bf16_f32
  else bif Nat.beq k (2 * (gl % 4) + 1) then
    truncf .bf16 (concatenate S16x512 0 [⟨S8x512, loOf x⟩, ⟨S8x512, broadcast S8x512 (Scalar.ofBits .f32 0x00000000#32)⟩]
      concatenates_S8x512_S8x512_S16x512_d0) bitsLt_bf16_f32
  else z16

/-- The right operand of the product: the codes over the eight blocks. -/
def rhs (I : In F) (is : Vec F S4x32x128 .f32) (g : ℕ) : FVec F S256x512 .bf16 :=
  concatenate S256x512 0 [⟨S128x512, qVal I g⟩, ⟨S16x512, aux (bs I is g) g 0⟩, ⟨S16x512, aux (bs I is g) g 1⟩,
    ⟨S16x512, aux (bs I is g) g 2⟩, ⟨S16x512, aux (bs I is g) g 3⟩, ⟨S16x512, aux (bs I is g) g 4⟩, ⟨S16x512, aux (bs I is g) g 5⟩,
    ⟨S16x512, aux (bs I is g) g 6⟩, ⟨S16x512, aux (bs I is g) g 7⟩]
    concatenates_S128x512_S16x512_S16x512_S16x512_S16x512_S16x512_S16x512_S16x512_S16x512_S256x512_d0

/-- The left operand: the identity beside a tile, over twice the transposed A factor beside zeros. -/
def lhs (I : In F) (eye : Vec F S128x128 .bf16) (g : ℕ) : FVec F S144x256 .bf16 :=
  concatenate S144x256 0 [⟨S128x256, concatenate S128x256 1
      [⟨S128x128, (fun x => eye ((Rect.unit (s := S128x128) ![0, 0] S128x128.size inb_S128x128_S128x128_0_0).toLoadRect.idx x) : Vec F S128x128 .bf16)⟩,
        ⟨S128x128, tile I (g / 4)⟩] concatenates_S128x128_S128x128_S128x256_d1⟩,
    ⟨S16x256, concatenate S16x256 1 [⟨S16x128, addf (aOf I g) (aOf I g)⟩, ⟨S16x128, broadcast S16x128 (Scalar.ofBits .bf16 0x0000#16)⟩]
      concatenates_S16x128_S16x128_S16x256_d1⟩] concatenates_S128x256_S16x256_S144x256_d0

/-- The product of the merge: the merged group over the products of the A factor with the codes. -/
def ut (I : In F) (eye : Vec F S128x128 .bf16) (is : Vec F S4x32x128 .f32) (g : ℕ) : FVec F S144x512 .f32 :=
  matmul dot_S144x256_S256x512_S144x512_1_0_0_1_n_n none (lhs I eye g) (rhs I is g) (constant S144x512 .f32 0x00000000#32)

/-- The merged group. -/
def uVal (I : In F) (eye : Vec F S128x128 .bf16) (is : Vec F S4x32x128 .f32) (g : ℕ) : FVec F S128x512 .f32 :=
  extractStridedSlice S128x512 ![0, 0] (ut I eye is g) slices_S144x512_o0_0_S128x512

/-- The largest magnitude over the first blocks of eight rows, through block `k`. -/
def mxUpTo (U : FVec F S128x512 .f32) (j : ℕ) : ℕ → FVec F S8x128 .f32
  | 0 => absf (extractStridedSlice S8x128 ![8 * (0 % 16), 128 * (j % 4)] U (sl_8 0 j))
  | k + 1 => maximumf (mxUpTo U j k) (absf (extractStridedSlice S8x128 ![8 * ((k + 1) % 16), 128 * (j % 4)] U (sl_8 (k + 1) j)))

/-- The codes of sixteen rows. -/
def q16 (Q : FVec F S128x512 .bf16) (j k : ℕ) : FVec F S16x128 .f32 :=
  extf .f32 (extractStridedSlice S16x128 ![16 * (k % 8), 128 * (j % 4)] Q (sl_16 k j)) bitsLt_bf16_f32

/-- The squares of the codes summed over the first blocks of sixteen rows, through block `k`. -/
def sqUpTo (Q : FVec F S128x512 .bf16) (j : ℕ) : ℕ → FVec F S16x128 .f32
  | 0 => mulf (q16 Q j 0) (q16 Q j 0)
  | k + 1 => addf (sqUpTo Q j k) (mulf (q16 Q j (k + 1)) (q16 Q j (k + 1)))

/-- The part of the squared norm that `w` accumulates. -/
def wVal (Q : FVec F S128x512 .bf16) (T : FVec F S144x512 .f32) (B : FVec F S8x512 .f32) (j : ℕ) : FVec F S8x128 .f32 :=
  addf (addf (extractStridedSlice S8x128 ![0, 0] (sqUpTo Q j 7) slices_S16x128_o0_0_S8x128)
      (extractStridedSlice S8x128 ![8, 0] (sqUpTo Q j 7) slices_S16x128_o8_0_S8x128))
    (mulf (extractStridedSlice S8x128 ![128, 128 * (j % 4)] T (sl_t j)) (extractStridedSlice S8x128 ![0, 128 * (j % 4)] B (sl_b j)))

/-- `val j` stored in group `g`'s rows of the first `n` column blocks. -/
def putN (val : ℕ → FVec F S8x128 .f32) (g : ℕ) (X : Vec F S4x256x128 .f32) : ℕ → Vec F S4x256x128 .f32
  | 0 => X
  | j + 1 => (Rect.unit (s := S4x256x128) ![j % 4, 8 * (g % 32), 0] S1x8x128.size (inb_mx j g)).overlay (putN val g X j)
      (shapeCast S1x8x128 (val j) shapeCasts_S8x128_S1x8x128)

def mergeStep (I : In F) (g : ℕ) (σ : St F) : St F :=
  { σ with
    u := (Rect.unit (s := S4096x512) ![128 * (g % 32), 0] S128x512.size (inb_u g)).overlay σ.u
      (shapeCast S128x512 (uVal I σ.eye σ.is g) shapeCasts_S128x512_S128x512)
    mx := putN (fun j => mxUpTo (uVal I σ.eye σ.is g) j 15) g σ.mx 4
    w := putN (fun j => wVal (qVal I g) (ut I σ.eye σ.is g) (bs I σ.is g) j) g σ.w 4 }

/-! ## The norms, the new scales and the factors of the tile before -/

/-- Row `r` of every group's eight rows. -/
def ldLane (X : Vec F S4x256x128 .f32) (j r : ℕ) : FVec F S32x128 .f32 :=
  shapeCast S32x128 (fun x => X ((⟨![j % 4, r % 8, 0], S1x32x128.size, ![1, 8, 1], inb_lane j r⟩ : LoadRect S4x256x128).idx x)
    : Vec F S1x32x128 .f32) shapeCasts_S1x32x128_S32x128

def mxAll (X : Vec F S4x256x128 .f32) (j : ℕ) : ℕ → FVec F S32x128 .f32
  | 0 => ldLane X j 0
  | r + 1 => maximumf (mxAll X j r) (ldLane X j (r + 1))

def wAll (X : Vec F S4x256x128 .f32) (j : ℕ) : ℕ → FVec F S32x128 .f32
  | 0 => ldLane X j 0
  | r + 1 => addf (wAll X j r) (ldLane X j (r + 1))

def ldPlane (X : Vec F S4x32x128 .f32) (j : ℕ) : FVec F S32x128 .f32 :=
  shapeCast S32x128 (fun x => X ((Rect.unit (s := S4x32x128) ![j % 4, 0, 0] S1x32x128.size (inb_plane j)).toLoadRect.idx x)
    : Vec F S1x32x128 .f32) shapeCasts_S1x32x128_S32x128

/-- The squared norms of the columns of block `j`. -/
def ssVal (w : Vec F S4x256x128 .f32) (s : Vec F S4x32x128 .f32) (dd : Vec F S4x8x128 .f32) (j : ℕ) : FVec F S1x128 .f32 :=
  addf
    (shapeCast S1x128 (multiReduction .add [0] S128 (mulf (wAll w j 7) (mulf (ldPlane s j) (ldPlane s j))) 0x00000000#32
      reduces_S32x128_S128 (.inl rfl) rfl) shapeCasts_S128_S1x128)
    (shapeCast S1x128 (multiReduction .add [0] S128 (shapeCast S8x128
        (fun x => dd ((Rect.unit (s := S4x8x128) ![j % 4, 0, 0] S1x8x128.size (inb_dplane j)).toLoadRect.idx x) : Vec F S1x8x128 .f32)
        shapeCasts_S1x8x128_S8x128) 0x00000000#32
      reduces_S8x128_S128 (.inl rfl) rfl) shapeCasts_S128_S1x128)

/-- The factor of every column of block `j`: its magnitude over its norm. -/
def cVal (I : In F) (w : Vec F S4x256x128 .f32) (s : Vec F S4x32x128 .f32) (dd : Vec F S4x8x128 .f32) (j : ℕ) : FVec F S1x128 .f32 :=
  divf (extf .f32 (shapeCast S1x128 (fun x => I.m ((Rect.unit (s := S1x1x512) ![0, 0, 128 * (j % 4)] S1x1x128.size (inb_mcol j)).toLoadRect.idx x)
      : Vec F S1x1x128 .bf16) shapeCasts_S1x1x128_S1x128) bitsLt_bf16_f32)
    (sqrt (ssVal w s dd j))

/-- The largest magnitude of every group of block `j`. -/
def amaxVal (I : In F) (σ : St F) (j : ℕ) : FVec F S32x128 .f32 :=
  mulf (mulf (mxAll σ.mx j 7) (absf (ldPlane σ.s j))) (broadcastTo S32x128 (absf (cVal I σ.w σ.s σ.dd j)) broadcasts_S1x128_S32x128)

/-- The new scales of block `j`. -/
def oscVal (I : In F) (σ : St F) (j : ℕ) : FVec F S32x128 .bf16 :=
  truncf .bf16 (select (cmpf .oeq (amaxVal I σ j) (broadcast S32x128 (Scalar.ofBits .f32 0x00000000#32)))
    (broadcast S32x128 (Scalar.ofBits .f32 0x3F800000#32))
    (divf (amaxVal I σ j) (broadcast S32x128 (Scalar.ofBits .f32 0x40E00000#32)))) bitsLt_bf16_f32

/-- What the merged group is multiplied by before it is rounded. -/
def rhoVal (I : In F) (σ : St F) (j : ℕ) : FVec F S32x128 .f32 :=
  divf (mulf (ldPlane σ.s j) (broadcastTo S32x128 (cVal I σ.w σ.s σ.dd j) broadcasts_S1x128_S32x128))
    (extf .f32 (oscVal I σ j) bitsLt_bf16_f32)

def finishStep (I : In F) (j : ℕ) (σ : St F) : St F :=
  { σ with
    os := (Rect.unit (s := S1x32x512) ![0, 0, 128 * (j % 4)] S1x32x128.size (inb_scol j)).overlay σ.os
      (shapeCast S1x32x128 (oscVal I σ j) shapeCasts_S32x128_S1x32x128)
    rho := (Rect.unit (s := S4x32x128) ![j % 4, 0, 0] S1x32x128.size (inb_plane j)).overlay σ.rho
      (shapeCast S1x32x128 (rhoVal I σ j) shapeCasts_S32x128_S1x32x128) }

/-! ## The new codes of one group -/

/-- The new codes of a group, as four-bit integers. -/
def codes4 (u : Vec F S4096x512 .f32) (rho : Vec F S4x32x128 .f32) (g : ℕ) : IVec S128x512 4 :=
  trunci 4 (trunci 8 (fptosi 32 (minimumf (broadcast S128x512 (Scalar.ofBits .f32 0x40E00000#32))
    (maximumf (broadcast S128x512 (Scalar.ofBits .f32 0xC0E00000#32))
      (roundeven (mulf (fun x => u ((Rect.unit (s := S4096x512) ![128 * (g % 32), 0] S128x512.size (inb_u g)).toLoadRect.idx x) : Vec F S128x512 .f32)
        (broadcastTo S128x512 (rowOf rho g) broadcasts_S1x512_S128x512)))))) natLt_8_32) natLt_4_8

/-- Two rows of four-bit integers packed in one row of bytes. -/
def pack4 (x : IVec S128x512 4) : IVec S64x512 8 :=
  trunci 8 (ori
    (andi (shapeCast S64x512 (extractStridedSlice S64x1x512 ![0, 0, 0] (shapeCast S64x2x512 (extsi 32 x natLt_4_32) shapeCasts_S128x512_S64x2x512)
      slices_S64x2x512_o0_0_0_S64x1x512) shapeCasts_S64x1x512_S64x512) (broadcast S64x512 15#32))
    (shli (andi (shapeCast S64x512 (extractStridedSlice S64x1x512 ![0, 1, 0] (shapeCast S64x2x512 (extsi 32 x natLt_4_32) shapeCasts_S128x512_S64x2x512)
      slices_S64x2x512_o0_1_0_S64x1x512) shapeCasts_S64x1x512_S64x512) (broadcast S64x512 15#32)) (broadcast S64x512 4#32))) natLt_8_32

def requantStep (g : ℕ) (σ : St F) : St F :=
  { σ with
    oc := (Rect.unit (s := S1x2048x512) ![0, 64 * (g % 32), 0] S1x64x512.size (inb_q g)).overlay σ.oc
      (shapeCast S1x64x512 (pack4 (codes4 σ.u σ.rho g)) shapeCasts_S64x512_S1x64x512 : Vec F S1x64x512 .i8) }

/-! ## The phases -/

/-- The first point: the first tile is merged. -/
def firstSt (I : In F) (σ : St F) : St F := iter (mergeStep I) (gramStep I (iter (setupStep I) (eyeStep σ) 4)) 32

/-- A point between: the tile before is finished, and group by group its codes are written and this tile's merged. -/
def midSt (I : In F) (σ : St F) : St F :=
  iter (fun g σ => mergeStep I g (requantStep g σ)) (gramStep I (iter (setupStep I) (iter (finishStep I) σ 4) 4)) 32

/-- The last point: the tile before is finished. -/
def lastSt (I : In F) (σ : St F) : St F := iter requantStep (iter (finishStep I) σ 4) 32

end Cert.KernelIdeal.Value

end
-- ==== Proof.Value.State.lean ====
/- The contents the body leaves, in closed form: after a tile is merged every buffer it wrote is a function of the
   tile's inputs alone, and after it is finished so are the two results. -/
module

public import proofs.«01_k».proof.Proof.Value.Spec
public import Idealize.ShloMosaic.Lib.Pointwise

@[expose] public section

set_option maxRecDepth 16384

noncomputable section

namespace Cert.KernelIdeal.Value

open Idealize.ShloMosaic Idealize.ShloMosaic.TcCoe
open Facts₀ Facts
open Cert.Exec (iter)

variable {F : FTy → Type} [FloatOps F] [Facts]

/-! ## Reading a rectangle of unit stride -/

/-- Inside the rectangle the new contents are read, at the index less the offset. -/
theorem overlay_in {s : Shape} {α : Type} {off size : Fin s.rank → ℕ} (hb : ∀ a, off a + size a ≤ s.size a) (X : s.Idx → α)
    (w : (Rect.unit (s := s) off size hb).shape.Idx → α) (i : s.Idx) (k : (Rect.unit (s := s) off size hb).shape.Idx)
    (h : ∀ a, (i a : ℕ) = off a + k a) : (Rect.unit (s := s) off size hb).overlay X w i = w k := by
  have : i = (Rect.unit (s := s) off size hb).emb k := by
    funext a; apply Fin.ext; rw [h a]; exact (by show off a + (k a : ℕ) = off a + 1 * (k a : ℕ); omega)
  rw [this, Rect.overlay_emb]

/-- Outside it the old ones are. -/
theorem overlay_out {s : Shape} {α : Type} {off size : Fin s.rank → ℕ} (hb : ∀ a, off a + size a ≤ s.size a) (X : s.Idx → α)
    (w : (Rect.unit (s := s) off size hb).shape.Idx → α) (i : s.Idx) (a : Fin s.rank)
    (h : (i a : ℕ) < off a ∨ off a + size a ≤ (i a : ℕ)) : (Rect.unit (s := s) off size hb).overlay X w i = X i := by
  apply Rect.overlay_of_not_mem
  intro hm
  obtain ⟨k, rfl⟩ := (Rect.unit (s := s) off size hb).exists_idx_of_mem hm
  have hk : (k a : ℕ) < size a := (k a).isLt
  have he : (((Rect.unit (s := s) off size hb).idx k) a : ℕ) = off a + k a := by simp [LoadRect.idx, Rect.unit]
  have h' : (((Rect.unit (s := s) off size hb).idx k) a : ℕ) < off a ∨ off a + size a ≤ (((Rect.unit (s := s) off size hb).idx k) a : ℕ) := h
  omega

/-- A unit axis put in front is dropped at the index. -/
theorem addUnit_ix {α : Type} {n m : ℕ} (v : (⟨2, ![n, m]⟩ : Shape).Idx → α) (h) (z : Fin 1) (x : Fin n) (y : Fin m) :
    shapeCast ⟨3, ![1, n, m]⟩ v h (ix3 z x y) = v (ix2 x y) :=
  (shapeCast_addUnit_apply ..).trans (congrArg v (funext fun a => match a with | ⟨0, _⟩ => rfl | ⟨1, _⟩ => rfl))

/-! ## Reading through a phase -/

/-- What no step of a phase changes stays. -/
theorem iter_keep {S β : Type} (get : S → β) (g : ℕ → S → S) (hk : ∀ n σ, get (g n σ) = get σ) (σ : S) (N : ℕ) :
    get (iter g σ N) = get σ := by
  induction N with
  | zero => rfl
  | succ n ih => exact (hk n _).trans ih

/-- What only the steps from `b` on change stays up to `b`. -/
theorem iter_before {S β : Type} (get : S → β) (g : ℕ → S → S) (σ : S) (b : ℕ)
    (hk : ∀ n σ, n < b → get (g n σ) = get σ) : get (iter g σ b) = get σ := by
  induction b with
  | zero => rfl
  | succ n ih => exact (hk n _ (by omega)).trans (ih fun m σ hm => hk m σ (by omega))

/-- What step `b` alone changes is, after the phase, what step `b` made it. -/
theorem iter_hit {S β : Type} (get : S → β) (g : ℕ → S → S) (σ : S) (N b : ℕ) (hb : b < N)
    (hk : ∀ n σ, n < N → n ≠ b → get (g n σ) = get σ) : get (iter g σ N) = get (g b (iter g σ b)) := by
  induction N with
  | zero => omega
  | succ n ih =>
    rcases Nat.lt_or_ge b n with h | h
    · exact (hk n _ (by omega) (by omega)).trans (ih h fun m σ hm => hk m σ (by omega))
    · obtain rfl : b = n := by omega
      rfl

/-! ## What a step leaves in the buffers it writes -/

theorem setupStep_s (I : In F) (j : ℕ) (σ : St F) : (setupStep I j σ).s =
    (Rect.unit (s := S4x32x128) ![j % 4, 0, 0] S1x32x128.size (inb_plane j)).overlay σ.s (shapeCast S1x32x128 (scVal I j) shapeCasts_S32x128_S1x32x128) := by
  dsimp only [setupStep]

theorem setupStep_is (I : In F) (j : ℕ) (σ : St F) : (setupStep I j σ).is =
    (Rect.unit (s := S4x32x128) ![j % 4, 0, 0] S1x32x128.size (inb_plane j)).overlay σ.is (shapeCast S1x32x128 (isVal I j) shapeCasts_S32x128_S1x32x128) := by
  dsimp only [setupStep]

theorem mergeStep_u (I : In F) (g : ℕ) (σ : St F) : (mergeStep I g σ).u =
    (Rect.unit (s := S4096x512) ![128 * (g % 32), 0] S128x512.size (inb_u g)).overlay σ.u
      (shapeCast S128x512 (uVal I σ.eye σ.is g) shapeCasts_S128x512_S128x512) := by
  dsimp only [mergeStep]

theorem mergeStep_mx (I : In F) (g : ℕ) (σ : St F) : (mergeStep I g σ).mx =
    putN (fun j => mxUpTo (uVal I σ.eye σ.is g) j 15) g σ.mx 4 := by
  dsimp only [mergeStep]

theorem mergeStep_w (I : In F) (g : ℕ) (σ : St F) : (mergeStep I g σ).w =
    putN (fun j => wVal (qVal I g) (ut I σ.eye σ.is g) (bs I σ.is g) j) g σ.w 4 := by
  dsimp only [mergeStep]

theorem mergeStep_rest (I : In F) (g : ℕ) (σ : St F) : (mergeStep I g σ).eye = σ.eye ∧ (mergeStep I g σ).is = σ.is ∧ (mergeStep I g σ).s = σ.s
    ∧ (mergeStep I g σ).dd = σ.dd ∧ (mergeStep I g σ).rho = σ.rho ∧ (mergeStep I g σ).oc = σ.oc ∧ (mergeStep I g σ).os = σ.os := by
  dsimp only [mergeStep]; exact ⟨rfl, rfl, rfl, rfl, rfl, rfl, rfl⟩
theorem finishStep_os (I : In F) (j : ℕ) (σ : St F) : (finishStep I j σ).os =
    (Rect.unit (s := S1x32x512) ![0, 0, 128 * (j % 4)] S1x32x128.size (inb_scol j)).overlay σ.os
      (shapeCast S1x32x128 (oscVal I σ j) shapeCasts_S32x128_S1x32x128) := by
  dsimp only [finishStep]

theorem finishStep_rho (I : In F) (j : ℕ) (σ : St F) : (finishStep I j σ).rho =
    (Rect.unit (s := S4x32x128) ![j % 4, 0, 0] S1x32x128.size (inb_plane j)).overlay σ.rho
      (shapeCast S1x32x128 (rhoVal I σ j) shapeCasts_S32x128_S1x32x128) := by
  dsimp only [finishStep]

theorem requantStep_oc (g : ℕ) (σ : St F) : (requantStep g σ).oc =
    (Rect.unit (s := S1x2048x512) ![0, 64 * (g % 32), 0] S1x64x512.size (inb_q g)).overlay σ.oc
      (shapeCast S1x64x512 (pack4 (codes4 σ.u σ.rho g)) shapeCasts_S64x512_S1x64x512 : Vec F S1x64x512 .i8) := by
  dsimp only [requantStep]

theorem setup_rest (I : In F) (j : ℕ) (σ : St F) : (setupStep I j σ).eye = σ.eye ∧ (setupStep I j σ).u = σ.u ∧ (setupStep I j σ).rho = σ.rho
    ∧ (setupStep I j σ).os = σ.os := by
  dsimp only [setupStep]; exact ⟨rfl, rfl, rfl, rfl⟩

theorem finish_rest (J : In F) (j : ℕ) (σ : St F) : (finishStep J j σ).mx = σ.mx ∧ (finishStep J j σ).s = σ.s
    ∧ (finishStep J j σ).w = σ.w ∧ (finishStep J j σ).dd = σ.dd ∧ (finishStep J j σ).u = σ.u ∧ (finishStep J j σ).eye = σ.eye := by
  dsimp only [finishStep]; exact ⟨rfl, rfl, rfl, rfl, rfl, rfl⟩

theorem requant_rest (g : ℕ) (σ : St F) : (requantStep g σ).eye = σ.eye ∧ (requantStep g σ).u = σ.u ∧ (requantStep g σ).mx = σ.mx
    ∧ (requantStep g σ).w = σ.w ∧ (requantStep g σ).dd = σ.dd ∧ (requantStep g σ).s = σ.s ∧ (requantStep g σ).is = σ.is := by
  dsimp only [requantStep]; exact ⟨rfl, rfl, rfl, rfl, rfl, rfl, rfl⟩

theorem requant_rest' (g : ℕ) (σ : St F) : (requantStep g σ).rho = σ.rho ∧ (requantStep g σ).os = σ.os := by
  dsimp only [requantStep]; exact ⟨rfl, rfl⟩

theorem gram_rest' (I : In F) (σ : St F) : (gramStep I σ).oc = σ.oc ∧ (gramStep I σ).os = σ.os := by
  dsimp only [gramStep]; exact ⟨rfl, rfl⟩

theorem setup_rest' (I : In F) (j : ℕ) (σ : St F) : (setupStep I j σ).oc = σ.oc := by
  dsimp only [setupStep]

theorem gram_rest (I : In F) (σ : St F) : (gramStep I σ).eye = σ.eye ∧ (gramStep I σ).u = σ.u ∧ (gramStep I σ).rho = σ.rho
    ∧ (gramStep I σ).os = σ.os ∧ (gramStep I σ).s = σ.s ∧ (gramStep I σ).is = σ.is ∧ (gramStep I σ).dd = ddN I σ.dd 4 := by
  dsimp only [gramStep]; exact ⟨rfl, rfl, rfl, rfl, rfl, rfl, rfl⟩

attribute [local irreducible] iter gramStep setupStep mergeStep finishStep requantStep uVal ut bs qVal wVal mxUpTo codes4 pack4 oscVal rhoVal isVal scVal
  eyeVal ddVal Rect.overlay

/-! ## The buffers of a merged tile -/

def sBuf (I : In F) : Vec F S4x32x128 .f32 := fun x => scVal I (x 0).val (ix2 (x 1) (x 2))
def isBuf (I : In F) : Vec F S4x32x128 .f32 := fun x => isVal I (x 0).val (ix2 (x 1) (x 2))

def ddBuf (I : In F) : Vec F S4x8x128 .f32 := fun x =>
  ddVal I (ix2 (x 1) ⟨128 * (x 0).val + (x 2).val, by have h0 : (x 0).val < 4 := (x 0).isLt; have h2 : (x 2).val < 128 := (x 2).isLt; omega⟩)

def uBuf (I : In F) : Vec F S4096x512 .f32 := fun x =>
  uVal I eyeVal (isBuf I) ((x 0).val / 128) (ix2 ⟨(x 0).val % 128, by omega⟩ (x 1))

def mxBuf (I : In F) : Vec F S4x256x128 .f32 := fun x =>
  mxUpTo (uVal I eyeVal (isBuf I) ((x 1).val / 8)) (x 0).val 15 (ix2 ⟨(x 1).val % 8, by omega⟩ (x 2))

def wBuf (I : In F) : Vec F S4x256x128 .f32 := fun x =>
  wVal (qVal I ((x 1).val / 8)) (ut I eyeVal (isBuf I) ((x 1).val / 8)) (bs I (isBuf I) ((x 1).val / 8)) (x 0).val (ix2 ⟨(x 1).val % 8, by omega⟩ (x 2))

/-- The state holds the tile merged. -/
structure Merged (I : In F) (σ : St F) : Prop where
  eye : σ.eye = eyeVal
  u : σ.u = uBuf I
  mx : σ.mx = mxBuf I
  w : σ.w = wBuf I
  dd : σ.dd = ddBuf I
  s : σ.s = sBuf I

/-! ## Setting up -/

theorem eyeStep_eye (σ : St F) : (eyeStep σ).eye = eyeVal := by
  funext x
  unfold eyeStep
  show (Rect.unit (s := S128x128) ![0, 0] S128x128.size inb_S128x128_S128x128_0_0).overlay σ.eye _ x = _
  refine (overlay_in (s := S128x128) (off := ![0, 0]) (size := S128x128.size) inb_S128x128_S128x128_0_0 σ.eye _ x x ?_).trans ?_
  · intro a; match a with
    | ⟨0, _⟩ => exact (Nat.zero_add _).symm
    | ⟨1, _⟩ => exact (Nat.zero_add _).symm
  · rw [shapeCast_self]

section Plane
variable (j : ℕ) (X : Vec F S4x32x128 .f32) (v : FVec F S32x128 .f32) (x : S4x32x128.Idx)

theorem plane_in (h : (x 0).val = j % 4) :
    (Rect.unit (s := S4x32x128) ![j % 4, 0, 0] S1x32x128.size (inb_plane j)).overlay X (shapeCast S1x32x128 v shapeCasts_S32x128_S1x32x128) x
      = v (ix2 (x 1) (x 2)) := by
  refine (overlay_in (s := S4x32x128) (off := ![j % 4, 0, 0]) (size := S1x32x128.size) (inb_plane j) X _ x (ix3 (0 : Fin 1) (x 1) (x 2)) ?_).trans ?_
  · intro a; match a with
    | ⟨0, _⟩ => exact h
    | ⟨1, _⟩ => exact (Nat.zero_add _).symm
    | ⟨2, _⟩ => exact (Nat.zero_add _).symm
  · exact addUnit_ix ..

theorem plane_out (h : (x 0).val ≠ j % 4) (w) :
    (Rect.unit (s := S4x32x128) ![j % 4, 0, 0] S1x32x128.size (inb_plane j)).overlay X w x = X x :=
  overlay_out _ _ _ x (0 : Fin 3) (by
    show (x 0).val < j % 4 ∨ j % 4 + 1 ≤ (x 0).val
    omega)
end Plane

theorem setup_s (I : In F) (σ : St F) : (iter (setupStep I) σ 4).s = sBuf I := by
  funext x
  have h0 : (x 0).val < 4 := (x 0).isLt
  refine (iter_hit (fun σ => σ.s x) (setupStep I) σ 4 (x 0).val h0 fun n σ hn hne => ?_).trans ?_
  · rw [setupStep_s]; exact plane_out n σ.s x (fun h => hne (by omega)) _
  · rw [setupStep_s]; exact plane_in _ _ _ x (by omega)

theorem setup_is (I : In F) (σ : St F) : (iter (setupStep I) σ 4).is = isBuf I := by
  funext x
  have h0 : (x 0).val < 4 := (x 0).isLt
  refine (iter_hit (fun σ => σ.is x) (setupStep I) σ 4 (x 0).val h0 fun n σ hn hne => ?_).trans ?_
  · rw [setupStep_is]; exact plane_out n σ.is x (fun h => hne (by omega)) _
  · rw [setupStep_is]; exact plane_in _ _ _ x (by omega)

theorem gram_dd (I : In F) (X : Vec F S4x8x128 .f32) : ddN I X 4 = ddBuf I := by
  funext x
  have h0 : (x 0).val < 4 := (x 0).isLt
  have key : ∀ n, ddN I X n x = if (x 0).val < n ∧ n ≤ 4 then ddBuf I x else if n ≤ 4 then X x else ddN I X n x := by
    intro n
    induction n with
    | zero => simp [ddN]
    | succ n ih =>
      by_cases hn : n + 1 ≤ 4
      · by_cases he : (x 0).val = n
        · rw [if_pos (by omega)]
          show (Rect.unit (s := S4x8x128) ![n % 4, 0, 0] S1x8x128.size (inb_dplane n)).overlay (ddN I X n) _ x = _
          refine (overlay_in (s := S4x8x128) (off := ![n % 4, 0, 0]) (size := S1x8x128.size) (inb_dplane n) (ddN I X n) _ x
            (ix3 (0 : Fin 1) (x 1) (x 2)) ?_).trans ?_
          · intro a; match a with
            | ⟨0, _⟩ => (show (x 0).val = n % 4 + 0; omega)
            | ⟨1, _⟩ => exact (Nat.zero_add _).symm
            | ⟨2, _⟩ => exact (Nat.zero_add _).symm
          refine (addUnit_ix ..).trans ?_
          refine (extractStridedSlice_apply (s := S8x512) (k := ix2 (x 1) ⟨128 * (x 0).val + (x 2).val, by have h2 : (x 2).val < 128 := (x 2).isLt; omega⟩) _ _ _ _ (by
            intro a; match a with | ⟨0, _⟩ => simp | ⟨1, _⟩ => (show 128 * (x 0).val + (x 2).val = 128 * (n % 4) + (x 2).val; omega))).trans ?_
          rfl
        · have : ddN I X (n + 1) x = ddN I X n x := by
            refine overlay_out _ _ _ x (0 : Fin 3) ?_
            show (x 0).val < n % 4 ∨ n % 4 + 1 ≤ (x 0).val
            omega
          rw [this, ih]
          by_cases h : (x 0).val < n
          · rw [if_pos (by omega), if_pos (by omega)]
          · rw [if_neg (by omega), if_pos (by omega), if_neg (by omega), if_pos (by omega)]
      · rw [if_neg (by omega), if_neg hn]
  rw [key 4, if_pos ⟨h0, le_rfl⟩]

/-! ## Merging -/

section Put
variable (val : ℕ → FVec F S8x128 .f32) (g : ℕ) (X : Vec F S4x256x128 .f32) (x : S4x256x128.Idx)

theorem put_out (h : (x 1).val / 8 ≠ g % 32) (n : ℕ) : putN val g X n x = X x := by
  induction n with
  | zero => rfl
  | succ n ih =>
    refine (overlay_out _ _ _ x (1 : Fin 3) ?_).trans ih
    show (x 1).val < 8 * (g % 32) ∨ 8 * (g % 32) + 8 ≤ (x 1).val
    omega

theorem put_in (h : (x 1).val / 8 = g % 32) : putN val g X 4 x = val (x 0).val (ix2 ⟨(x 1).val % 8, by omega⟩ (x 2)) := by
  have h0 : (x 0).val < 4 := (x 0).isLt
  have key : ∀ n, n ≤ 4 → (x 0).val < n → putN val g X n x = val (x 0).val (ix2 ⟨(x 1).val % 8, by omega⟩ (x 2)) := by
    intro n
    induction n with
    | zero => intro _ h; omega
    | succ n ih =>
      intro hn hx
      by_cases he : (x 0).val = n
      · show (Rect.unit (s := S4x256x128) ![n % 4, 8 * (g % 32), 0] S1x8x128.size (inb_mx n g)).overlay (putN val g X n) _ x = _
        refine (overlay_in (s := S4x256x128) (off := ![n % 4, 8 * (g % 32), 0]) (size := S1x8x128.size) (inb_mx n g) (putN val g X n) _ x
          (ix3 (0 : Fin 1) ⟨(x 1).val % 8, by omega⟩ (x 2)) ?_).trans ?_
        · intro a; match a with
          | ⟨0, _⟩ => (show (x 0).val = n % 4 + 0; omega)
          | ⟨1, _⟩ => (show (x 1).val = 8 * (g % 32) + (x 1).val % 8; omega)
          | ⟨2, _⟩ => exact (Nat.zero_add _).symm
        refine (addUnit_ix ..).trans ?_
        rw [← he]
      · refine (overlay_out _ _ _ x (0 : Fin 3) ?_).trans (ih (by omega) (by omega))
        show (x 0).val < n % 4 ∨ n % 4 + 1 ≤ (x 0).val
        omega
  exact key 4 le_rfl h0
end Put

theorem u_out (g : ℕ) (X : Vec F S4096x512 .f32) (w) (x : S4096x512.Idx) (h : (x 0).val / 128 ≠ g % 32) :
    (Rect.unit (s := S4096x512) ![128 * (g % 32), 0] S128x512.size (inb_u g)).overlay X w x = X x :=
  overlay_out _ _ _ x (0 : Fin 2) (by
    show (x 0).val < 128 * (g % 32) ∨ 128 * (g % 32) + 128 ≤ (x 0).val
    omega)

theorem u_in (g : ℕ) (X : Vec F S4096x512 .f32) (v : FVec F S128x512 .f32) (x : S4096x512.Idx) (h : (x 0).val / 128 = g % 32) :
    (Rect.unit (s := S4096x512) ![128 * (g % 32), 0] S128x512.size (inb_u g)).overlay X (shapeCast S128x512 v shapeCasts_S128x512_S128x512) x
      = v (ix2 ⟨(x 0).val % 128, by omega⟩ (x 1)) := by
  refine (overlay_in (s := S4096x512) (off := ![128 * (g % 32), 0]) (size := S128x512.size) (inb_u g) X _ x
    (ix2 ⟨(x 0).val % 128, by omega⟩ (x 1)) ?_).trans ?_
  · intro a; match a with
    | ⟨0, _⟩ => (show (x 0).val = 128 * (g % 32) + (x 0).val % 128; omega)
    | ⟨1, _⟩ => exact (Nat.zero_add _).symm
  · rw [shapeCast_self]

/-- A phase that merges group after group and touches nothing the merge reads leaves the tile merged. -/
theorem merged_of_phase (I : In F) (h : ℕ → St F → St F)
    (hh : ∀ n σ, (h n σ).eye = σ.eye ∧ (h n σ).u = σ.u ∧ (h n σ).mx = σ.mx ∧ (h n σ).w = σ.w ∧ (h n σ).dd = σ.dd ∧ (h n σ).s = σ.s ∧ (h n σ).is = σ.is)
    (σ : St F) (he : σ.eye = eyeVal) (hd : σ.dd = ddBuf I) (hs : σ.s = sBuf I) (hi : σ.is = isBuf I) :
    Merged I (iter (fun g σ => mergeStep I g (h g σ)) σ 32) := by
  have ke : ∀ N, (iter (fun g σ => mergeStep I g (h g σ)) σ N).eye = eyeVal := fun N =>
    (iter_keep (fun σ => σ.eye) _ (fun n σ => (mergeStep_rest I n _).1.trans (hh n σ).1) σ N).trans he
  have ki : ∀ N, (iter (fun g σ => mergeStep I g (h g σ)) σ N).is = isBuf I := fun N =>
    (iter_keep (fun σ => σ.is) _ (fun n σ => (mergeStep_rest I n _).2.1.trans (hh n σ).2.2.2.2.2.2) σ N).trans hi
  refine ⟨ke _, ?_, ?_, ?_, ?_, ?_⟩
  · funext x
    have h0 : (x 0).val < 4096 := (x 0).isLt
    refine (iter_hit (fun σ => σ.u x) _ σ 32 ((x 0).val / 128) (by omega) fun n σ hn hne => ?_).trans ?_
    · rw [mergeStep_u]; exact (u_out n _ _ x (fun h => hne (by omega))).trans (congrFun (hh n σ).2.1 x)
    · rw [mergeStep_u]
      refine (u_in _ _ _ x (by omega)).trans ?_
      rw [(hh _ _).1, (hh _ _).2.2.2.2.2.2, ke, ki]; rfl
  · funext x
    have h0 : (x 1).val < 256 := (x 1).isLt
    refine (iter_hit (fun σ => σ.mx x) _ σ 32 ((x 1).val / 8) (by omega) fun n σ hn hne => ?_).trans ?_
    · rw [mergeStep_mx]; exact (put_out _ n _ x (fun h => hne (by omega)) 4).trans (congrFun (hh n σ).2.2.1 x)
    · rw [mergeStep_mx]
      refine (put_in _ _ _ x (by omega)).trans ?_
      rw [(hh _ _).1, (hh _ _).2.2.2.2.2.2, ke, ki]; rfl
  · funext x
    have h0 : (x 1).val < 256 := (x 1).isLt
    refine (iter_hit (fun σ => σ.w x) _ σ 32 ((x 1).val / 8) (by omega) fun n σ hn hne => ?_).trans ?_
    · rw [mergeStep_w]; exact (put_out _ n _ x (fun h => hne (by omega)) 4).trans (congrFun (hh n σ).2.2.2.1 x)
    · rw [mergeStep_w]
      refine (put_in _ _ _ x (by omega)).trans ?_
      rw [(hh _ _).1, (hh _ _).2.2.2.2.2.2, ke, ki]; rfl
  · exact (iter_keep (fun σ => σ.dd) _ (fun n σ => (mergeStep_rest I n _).2.2.2.1.trans (hh n σ).2.2.2.2.1) σ 32).trans hd
  · exact (iter_keep (fun σ => σ.s) _ (fun n σ => (mergeStep_rest I n _).2.2.1.trans (hh n σ).2.2.2.2.2.1) σ 32).trans hs

theorem merged_first (I : In F) (σ : St F) : Merged I (firstSt I σ) := by
  unfold firstSt
  refine merged_of_phase I (fun _ σ => σ) (fun _ _ => ⟨rfl, rfl, rfl, rfl, rfl, rfl, rfl⟩) _ ?_ ?_ ?_ ?_
  · rw [(gram_rest I _).1]
    exact (iter_keep (fun σ => σ.eye) (setupStep I) (fun n σ => (setup_rest I n σ).1) _ 4).trans (eyeStep_eye σ)
  · rw [(gram_rest I _).2.2.2.2.2.2]; exact gram_dd I _
  · rw [(gram_rest I _).2.2.2.2.1]; exact setup_s I _
  · rw [(gram_rest I _).2.2.2.2.2.1]; exact setup_is I _

theorem merged_mid (I : In F) (σ : St F) (h : σ.eye = eyeVal) : Merged I (midSt I σ) := by
  unfold midSt
  refine merged_of_phase I requantStep requant_rest _ ?_ ?_ ?_ ?_
  · rw [(gram_rest I _).1]
    exact ((iter_keep (fun σ => σ.eye) (setupStep I) (fun n σ => (setup_rest I n σ).1) _ 4).trans
      (iter_keep (fun σ => σ.eye) (finishStep I) (fun n σ => (finish_rest I n σ).2.2.2.2.2) _ 4)).trans h
  · rw [(gram_rest I _).2.2.2.2.2.2]; exact gram_dd I _
  · rw [(gram_rest I _).2.2.2.2.1]; exact setup_s I _
  · rw [(gram_rest I _).2.2.2.2.2.1]; exact setup_is I _

theorem first_oc (I : In F) (σ : St F) : (firstSt I σ).oc = σ.oc := by
  unfold firstSt
  refine (iter_keep (fun σ : St F => σ.oc) (mergeStep I) (fun n σ => (mergeStep_rest I n σ).2.2.2.2.2.1) _ 32).trans ?_
  show (gramStep I (iter (setupStep I) (eyeStep σ) 4)).oc = _
  rw [(gram_rest' I _).1]
  refine (iter_keep (fun σ : St F => σ.oc) (setupStep I) (fun n σ => (setup_rest' I n σ)) _ 4).trans ?_
  unfold eyeStep; rfl

theorem first_os (I : In F) (σ : St F) : (firstSt I σ).os = σ.os := by
  unfold firstSt
  refine (iter_keep (fun σ : St F => σ.os) (mergeStep I) (fun n σ => (mergeStep_rest I n σ).2.2.2.2.2.2) _ 32).trans ?_
  show (gramStep I (iter (setupStep I) (eyeStep σ) 4)).os = _
  rw [(gram_rest I _).2.2.2.1]
  refine (iter_keep (fun σ : St F => σ.os) (setupStep I) (fun n σ => (setup_rest I n σ).2.2.2) _ 4).trans ?_
  unfold eyeStep; rfl

/-! ## The results of a finished tile -/

/-- A merged tile, the other buffers of no account. -/
def tileSt (I : In F) : St F :=
  { oc := fun _ => 0, os := fun _ => Scalar.ofBits .bf16 0, eye := eyeVal, u := uBuf I, mx := mxBuf I, w := wBuf I, dd := ddBuf I
    rho := fun _ => Scalar.ofBits .f32 0, s := sBuf I, is := fun _ => Scalar.ofBits .f32 0 }

def rhoBuf (I J : In F) : Vec F S4x32x128 .f32 := fun x => rhoVal J (tileSt I) (x 0).val (ix2 (x 1) (x 2))

/-- The new scales of tile `I`, the magnitudes read in `J`. -/
def osBuf (I J : In F) : Vec F S1x32x512 .bf16 := fun x =>
  oscVal J (tileSt I) ((x 2).val / 128) (ix2 (x 1) ⟨(x 2).val % 128, by omega⟩)

/-- The new codes of tile `I`, the magnitudes read in `J`. -/
def ocBuf (I J : In F) : Vec F S1x2048x512 .i8 := fun x =>
  pack4 (codes4 (uBuf I) (rhoBuf I J) ((x 1).val / 64)) (ix2 ⟨(x 1).val % 64, by omega⟩ (x 2))

/-- What a phase of `finishStep`s reads stays. -/
theorem finish_keep (J : In F) (σ : St F) (N : ℕ) : (iter (finishStep J) σ N).mx = σ.mx ∧ (iter (finishStep J) σ N).s = σ.s
    ∧ (iter (finishStep J) σ N).w = σ.w ∧ (iter (finishStep J) σ N).dd = σ.dd ∧ (iter (finishStep J) σ N).u = σ.u :=
  ⟨iter_keep (fun σ => σ.mx) _ (fun n σ => (finish_rest J n σ).1) σ N, iter_keep (fun σ => σ.s) _ (fun n σ => (finish_rest J n σ).2.1) σ N,
    iter_keep (fun σ => σ.w) _ (fun n σ => (finish_rest J n σ).2.2.1) σ N, iter_keep (fun σ => σ.dd) _ (fun n σ => (finish_rest J n σ).2.2.2.1) σ N,
    iter_keep (fun σ => σ.u) _ (fun n σ => (finish_rest J n σ).2.2.2.2.1) σ N⟩

theorem amaxVal_of (J : In F) {σ τ : St F} (h1 : σ.mx = τ.mx) (h2 : σ.s = τ.s) (h3 : σ.w = τ.w) (h4 : σ.dd = τ.dd) (j : ℕ) :
    amaxVal J σ j = amaxVal J τ j := by
  unfold amaxVal; rw [h1, h2, h3, h4]

theorem oscVal_of (J : In F) {σ τ : St F} (h1 : σ.mx = τ.mx) (h2 : σ.s = τ.s) (h3 : σ.w = τ.w) (h4 : σ.dd = τ.dd) (j : ℕ) :
    oscVal J σ j = oscVal J τ j := by
  unfold oscVal; rw [amaxVal_of J h1 h2 h3 h4]

theorem rhoVal_of (J : In F) {σ τ : St F} (h1 : σ.mx = τ.mx) (h2 : σ.s = τ.s) (h3 : σ.w = τ.w) (h4 : σ.dd = τ.dd) (j : ℕ) :
    rhoVal J σ j = rhoVal J τ j := by
  unfold rhoVal; rw [oscVal_of J h1 h2 h3 h4, h2, h3, h4]

variable {I : In F} (J : In F) {σ : St F} (hM : Merged I σ)
include hM

theorem finish_rho : (iter (finishStep J) σ 4).rho = rhoBuf I J := by
  funext x
  have h0 : (x 0).val < 4 := (x 0).isLt
  refine (iter_hit (fun σ => σ.rho x) (finishStep J) σ 4 (x 0).val h0 fun n σ hn hne => ?_).trans ?_
  · rw [finishStep_rho]; exact plane_out n σ.rho x (fun h => hne (by omega)) _
  · rw [finishStep_rho]
    refine (plane_in _ _ _ x (by omega)).trans ?_
    obtain ⟨h1, h2, h3, h4, -⟩ := finish_keep J σ (x 0).val
    unfold rhoBuf
    rw [rhoVal_of J (τ := tileSt I) (h1.trans hM.mx) (h2.trans hM.s) (h3.trans hM.w) (h4.trans hM.dd)]

theorem finish_os : (iter (finishStep J) σ 4).os = osBuf I J := by
  funext x
  have h2' : (x 2).val < 512 := (x 2).isLt
  have h0 : (x 0).val < 1 := (x 0).isLt
  refine (iter_hit (fun σ => σ.os x) (finishStep J) σ 4 ((x 2).val / 128) (by omega) fun n σ hn hne => ?_).trans ?_
  · rw [finishStep_os]
    refine overlay_out _ _ _ x (2 : Fin 3) ?_
    show (x 2).val < 128 * (n % 4) ∨ 128 * (n % 4) + 128 ≤ (x 2).val
    omega
  · rw [finishStep_os]
    refine (overlay_in (s := S1x32x512) (off := ![0, 0, 128 * ((x 2).val / 128 % 4)]) (size := S1x32x128.size) (inb_scol _) _ _ x
      (ix3 (0 : Fin 1) (x 1) ⟨(x 2).val % 128, by omega⟩) ?_).trans ?_
    · intro a; match a with
      | ⟨0, _⟩ => (show (x 0).val = 0 + 0; omega)
      | ⟨1, _⟩ => exact (Nat.zero_add _).symm
      | ⟨2, _⟩ => (show (x 2).val = 128 * ((x 2).val / 128 % 4) + (x 2).val % 128; omega)
    refine (addUnit_ix ..).trans ?_
    obtain ⟨h1, h2, h3, h4, -⟩ := finish_keep J σ ((x 2).val / 128)
    unfold osBuf
    rw [oscVal_of J (τ := tileSt I) (h1.trans hM.mx) (h2.trans hM.s) (h3.trans hM.w) (h4.trans hM.dd)]

omit hM in
theorem codes4_of (u u' : Vec F S4096x512 .f32) (rho : Vec F S4x32x128 .f32) (g : ℕ)
    (h : ∀ x : S4096x512.Idx, (x 0).val / 128 = g % 32 → u x = u' x) : codes4 u rho g = codes4 u' rho g := by
  have : (fun x => u ((Rect.unit (s := S4096x512) ![128 * (g % 32), 0] S128x512.size (inb_u g)).toLoadRect.idx x) : Vec F S128x512 .f32)
      = (fun x => u' ((Rect.unit (s := S4096x512) ![128 * (g % 32), 0] S128x512.size (inb_u g)).toLoadRect.idx x) : Vec F S128x512 .f32) := by
    funext x
    apply h
    have hx : (x 0).val < 128 := (x 0).isLt
    show (128 * (g % 32) + 1 * (x 0).val) / 128 = g % 32
    omega
  unfold codes4
  rw [this]

omit hM in
/-- The codes that a phase writes when every step writes its group's from contents that no earlier step touches. -/
theorem codes_of_phase (h : ℕ → St F → St F) (u : Vec F S4096x512 .f32) (rho : Vec F S4x32x128 .f32) (σ : St F)
    (hoc : ∀ n σ, (h n σ).oc = (requantStep n σ).oc) (hu : ∀ n σ x, n < 32 → (x 0).val / 128 ≠ n → (h n σ).u x = σ.u x)
    (hr : ∀ n σ, (h n σ).rho = σ.rho) (h1 : σ.u = u) (h2 : σ.rho = rho) :
    (iter h σ 32).oc = fun x => pack4 (codes4 u rho ((x 1).val / 64)) (ix2 ⟨(x 1).val % 64, by omega⟩ (x 2)) := by
  funext x
  have hx1 : (x 1).val < 2048 := (x 1).isLt
  have hx0 : (x 0).val < 1 := (x 0).isLt
  refine (iter_hit (fun σ => σ.oc x) h σ 32 ((x 1).val / 64) (by omega) fun n σ hn hne => ?_).trans ?_
  · rw [hoc, requantStep_oc]
    refine overlay_out _ _ _ x (1 : Fin 3) ?_
    show (x 1).val < 64 * (n % 32) ∨ 64 * (n % 32) + 64 ≤ (x 1).val
    omega
  · rw [hoc, requantStep_oc]
    refine (overlay_in (s := S1x2048x512) (off := ![0, 64 * ((x 1).val / 64 % 32), 0]) (size := S1x64x512.size) (inb_q _) _ _ x
      (ix3 (0 : Fin 1) ⟨(x 1).val % 64, by omega⟩ (x 2)) ?_).trans ?_
    · intro a; match a with
      | ⟨0, _⟩ => (show (x 0).val = 0 + 0; omega)
      | ⟨1, _⟩ => (show (x 1).val = 64 * ((x 1).val / 64 % 32) + (x 1).val % 64; omega)
      | ⟨2, _⟩ => exact (Nat.zero_add _).symm
    refine (addUnit_ix ..).trans ?_
    rw [show (iter h σ ((x 1).val / 64)).rho = rho from (iter_keep (fun σ => σ.rho) h hr σ _).trans h2,
      codes4_of _ u rho _ fun y hy => (iter_before (fun σ => σ.u y) h σ _ fun n σ hn => hu n σ y (by omega) (by omega)).trans (congrFun h1 y)]

theorem last_os : (lastSt J σ).os = osBuf I J := by
  unfold lastSt
  exact (iter_keep (fun σ : St F => σ.os) requantStep (fun n σ => (requant_rest' n σ).2) (iter (finishStep J) σ 4) 32).trans (finish_os J hM)

theorem mid_os : (midSt J σ).os = osBuf I J := by
  unfold midSt
  refine (iter_keep (fun σ : St F => σ.os) (fun g σ => mergeStep J g (requantStep g σ))
      (fun n σ => (mergeStep_rest J n _).2.2.2.2.2.2.trans (requant_rest' n σ).2) _ 32).trans ?_
  show (gramStep J (iter (setupStep J) (iter (finishStep J) σ 4) 4)).os = _
  rw [(gram_rest J _).2.2.2.1]
  exact (iter_keep (fun σ : St F => σ.os) (setupStep J) (fun n σ => (setup_rest J n σ).2.2.2) _ 4).trans (finish_os J hM)

theorem last_oc : (lastSt J σ).oc = ocBuf I J := by
  unfold lastSt
  exact codes_of_phase requantStep (uBuf I) (rhoBuf I J) _ (fun _ _ => rfl) (fun n σ x _ _ => congrFun (requant_rest n σ).2.1 x)
    (fun n σ => (requant_rest' n σ).1) ((finish_keep J σ 4).2.2.2.2.trans hM.u) (finish_rho J hM)

theorem mid_oc : (midSt J σ).oc = ocBuf I J := by
  unfold midSt
  exact codes_of_phase (fun g σ => mergeStep J g (requantStep g σ)) (uBuf I) (rhoBuf I J) _
    (fun n σ => (mergeStep_rest J n _).2.2.2.2.2.1)
    (fun n σ x hn hx => by
      show (mergeStep J n (requantStep n σ)).u x = _
      rw [mergeStep_u]; exact (u_out n _ _ x (fun h => hx (by omega))).trans (congrFun (requant_rest n σ).2.1 x))
    (fun n σ => (mergeStep_rest J n _).2.2.2.2.1.trans (requant_rest' n σ).1)
    (by
      rw [(gram_rest J _).2.1]
      exact (iter_keep (fun σ : St F => σ.u) (setupStep J) (fun n σ => (setup_rest J n σ).2.1) _ 4).trans ((finish_keep J σ 4).2.2.2.2.trans hM.u))
    (by
      rw [(gram_rest J _).2.2.1]
      exact (iter_keep (fun σ : St F => σ.rho) (setupStep J) (fun n σ => (setup_rest J n σ).2.2.1) _ 4).trans (finish_rho J hM))

end Cert.KernelIdeal.Value

end
-- ==== Proof.Value.Read.lean ====
/- The entries of the body's vectors at the ideal values: what the loads, the concatenations and the conversions
   read at a position. -/
module

public import proofs.«01_k».proof.Proof.Value.State
public import Idealize.ShloMosaic.Lib.Pointwise

@[expose] public section

set_option maxRecDepth 16384

noncomputable section

namespace Cert.KernelIdeal.Value

open Idealize.ShloMosaic Idealize.ShloMosaic.TcCoe
open Facts₀ Facts
open Cert.Exec (iter)

variable [Facts] (I : In Ideal)

/-- The position a rectangle of a three-dimensional buffer reads, from the sums it comes to. -/
theorem idx3 {n0 n1 n2 : ℕ} {x y : Shape.Idx ⟨3, ![n0, n1, n2]⟩} (h0 : (x 0).val = (y 0).val) (h1 : (x 1).val = (y 1).val) (h2 : (x 2).val = (y 2).val) : x = y := by
  funext a; apply Fin.ext
  match a with
  | ⟨0, _⟩ => exact h0
  | ⟨1, _⟩ => exact h1
  | ⟨2, _⟩ => exact h2

/-- The entries of a tile's inputs as real numbers: the codes, the scales (none zero), the A factor, half the B factor. -/
structure Entries (q : Fin 32 → Fin 128 → Fin 512 → ℝ) (s : Fin 32 → Fin 512 → ℝ) (A : Fin 32 → Fin 128 → Fin 8 → ℝ) (h : Fin 8 → Fin 512 → ℝ) : Prop where
  code : ∀ g p c, qVal I g.val (ix2 p c) = (q g p c : EReal)
  scale : ∀ g c, I.sc (ix3 0 g c) = (s g c : EReal)
  scale_ne : ∀ g c, s g c ≠ 0
  a : ∀ (g : Fin 32) (r : Fin 16) (p : Fin 128), I.a (ix3 0 ⟨16 * g.val + r.val, by omega⟩ p) = (A g p ⟨r.val % 8, by omega⟩ : EReal)
  b : ∀ r c, bh I (ix2 r c) = (h r c : EReal)

theorem scVal_apply (j : Fin 4) (g : Fin 32) (l : Fin 128) : scVal I j (ix2 g l) = I.sc (ix3 0 g ⟨128 * j.val + l.val, by omega⟩) := by
  pointwise [scVal]
  exact congrArg I.sc (idx3 rfl rfl (by show 128 * (j.val % 4) + l.val = 128 * j.val + l.val; omega))

theorem isVal_apply (j : Fin 4) (g : Fin 32) (l : Fin 128) : isVal I j (ix2 g l) = Ideal.div 1 (I.sc (ix3 0 g ⟨128 * j.val + l.val, by omega⟩)) := by
  pointwise [isVal]
  rw [scVal_apply]

theorem bh_apply (r : Fin 8) (c : Fin 512) : bh I (ix2 r c) = I.b (ix3 0 r c) * Ideal.ofBits FTy.f32 1056964608#32 := by
  pointwise [bh]

theorem aOf_apply (g : Fin 32) (r : Fin 16) (p : Fin 128) : aOf I g (ix2 r p) = I.a (ix3 0 ⟨16 * g.val + r.val, by omega⟩ p) := by
  pointwise [aOf]
  exact congrArg I.a (idx3 rfl (by show 16 * (g.val % 32) + r.val = 16 * g.val + r.val; omega) rfl)

theorem aOf_congr {g g' : ℕ} {r r' : Fin 16} (p : Fin 128) (hg : g = g') (hr : r.val = r'.val) : aOf I g (ix2 r p) = aOf I g' (ix2 r' p) := by
  obtain rfl := hg
  obtain rfl := Fin.ext hr
  rfl

theorem tile_apply (t : ℕ) (p k : Fin 128) : tile I t (ix2 p k) = aOf I (4 * t + k.val / 32) (ix2 ⟨k.val % 16, by omega⟩ p) := by
  pointwise [tile]
  repeat' split
  all_goals
    refine aOf_congr I p ?_ ?_
    · omega
    · try dsimp only
      omega

theorem rowOf_apply (X : Vec Ideal S4x32x128 .f32) (g : Fin 32) (c : Fin 512) : rowOf X g (ix2 0 c) = X (ix3 ⟨c.val / 128, by omega⟩ g ⟨c.val % 128, by omega⟩) := by
  have hl : ∀ (j : ℕ) (hj : j < 4) (l : Fin 128), ldRow X j g (ix2 0 l) = X (ix3 ⟨j, hj⟩ g l) := by
    intro j hj l
    pointwise [ldRow]
    exact congrArg X (idx3 (by show j % 4 = j; omega) (by show g.val % 32 = g.val; omega) rfl)
  pointwise [rowOf]
  split
  · rw [hl 0 (by omega)]; exact congrArg X (idx3 (by show 0 = c.val / 128; omega) rfl (by show c.val = c.val % 128; omega))
  · split
    · rw [hl 1 (by omega)]; exact congrArg X (idx3 (by show 1 = c.val / 128; omega) rfl (by show c.val - 128 = c.val % 128; omega))
    · split
      · rw [hl 2 (by omega)]; exact congrArg X (idx3 (by show 2 = c.val / 128; omega) rfl (by show c.val - 128 - 128 = c.val % 128; omega))
      · rw [hl 3 (by omega)]; exact congrArg X (idx3 (by show 3 = c.val / 128; omega) rfl (by show c.val - 128 - 128 - 128 = c.val % 128; omega))

theorem div_real {x y : ℝ} (hy : y ≠ 0) : Ideal.div (x : EReal) (y : EReal) = ((x * y⁻¹ : ℝ) : EReal) := by
  rw [Ideal.div, if_neg (by exact_mod_cast hy), EReal.coe_mul, EReal.coe_inv]

theorem hiOf_apply {s : Shape} (x : FVec Ideal s .f32) (i : s.Idx) : hiOf x i = x i := rfl
theorem midOf_apply {s : Shape} (x : FVec Ideal s .f32) (i : s.Idx) (r : ℝ) (h : x i = (r : EReal)) : midOf x i = 0 := by
  show x i - x i = 0
  rw [h, ← EReal.coe_sub, sub_self, EReal.coe_zero]
theorem loOf_apply {s : Shape} (x : FVec Ideal s .f32) (i : s.Idx) (r : ℝ) (h : x i = (r : EReal)) : loOf x i = 0 := by
  show (x i - x i) - (x i - x i) = 0
  rw [h, ← EReal.coe_sub, sub_self, EReal.coe_zero, sub_zero]

/-- One of the eight blocks under the codes: the group's own rows in its own block, zero elsewhere. -/
theorem aux_apply (x : FVec Ideal S8x512 .f32) (hx : ∀ r c, ∃ v : ℝ, x (ix2 r c) = (v : EReal)) (gl k : ℕ) (r : Fin 16) (c : Fin 512) :
    aux x gl k (ix2 r c) = if h : k = 2 * (gl % 4) ∧ r.val < 8 then x (ix2 ⟨r.val, h.2⟩ c) else 0 := by
  have hb : ∀ a b : ℕ, Nat.beq a b = decide (a = b) := fun a b => by
    rw [Bool.eq_iff_iff]; simp
  unfold aux
  by_cases h1 : k = 2 * (gl % 4)
  · rw [hb, decide_eq_true h1, cond_true]
    pointwise
    split
    · rename_i h; rw [dif_pos ⟨h1, h⟩]; rfl
    · rename_i h; rw [dif_neg (fun h' => h h'.2)]
      obtain ⟨v, hv⟩ := hx ⟨r.val - 8, by omega⟩ c
      exact midOf_apply _ _ v hv
  · rw [hb, decide_eq_false h1, cond_false, dif_neg (fun h' => h1 h'.1)]
    by_cases h2 : k = 2 * (gl % 4) + 1
    · rw [hb, decide_eq_true h2, cond_true]
      pointwise
      split
      · rename_i h
        obtain ⟨v, hv⟩ := hx ⟨r.val, h⟩ c
        exact loOf_apply _ _ v hv
      · rfl
    · rw [hb, decide_eq_false h2, cond_false]
      pointwise [z16]

theorem eye_apply (p q : Fin 128) : eyeVal (F := Ideal) (ix2 p q) = if p = q then 1 else 0 := by
  pointwise [eyeVal]
  by_cases h : p = q
  · subst h
    rw [if_pos rfl]
    have : IntOp.cmpi CmpIPredicate.eq (BitVec.ofNat 32 p.val) (BitVec.ofNat 32 p.val) = 1#1 := by simp [IntOp.cmpi]
    rw [this]
    show (((BitVec.setWidth 32 1#1).toInt : ℝ) : EReal) = 1
    norm_num
  · rw [if_neg h]
    have hne : BitVec.ofNat 32 p.val ≠ BitVec.ofNat 32 q.val := fun e => h (Fin.ext (by
      have := congrArg BitVec.toNat e; simp only [BitVec.toNat_ofNat] at this; omega))
    have : IntOp.cmpi CmpIPredicate.eq (BitVec.ofNat 32 p.val) (BitVec.ofNat 32 q.val) = 0#1 := by
      show BitVec.ofBool (BitVec.ofNat 32 p.val == BitVec.ofNat 32 q.val) = 0#1
      rw [beq_eq_false_iff_ne.mpr hne]; rfl
    rw [this]
    show (((BitVec.setWidth 32 0#1).toInt : ℝ) : EReal) = 0
    norm_num

theorem rhs_code (is : Vec Ideal S4x32x128 .f32) (g : ℕ) (k : Fin 128) (c : Fin 512) : rhs I is g (ix2 (Fin.castAdd 128 k) c) = qVal I g (ix2 k c) := by
  pointwise [rhs]
  exact dif_pos k.isLt

theorem aux_congr (x : FVec Ideal S8x512 .f32) (gl : ℕ) {k k' : ℕ} {r r' : Fin 16} (c : Fin 512) (hk : k = k') (hr : r.val = r'.val) : aux x gl k (ix2 r c) = aux x gl k' (ix2 r' c) := by
  obtain rfl := hk
  obtain rfl := Fin.ext hr
  rfl

theorem rhs_aux (is : Vec Ideal S4x32x128 .f32) (g : ℕ) (k : Fin 128) (c : Fin 512) : rhs I is g (ix2 (Fin.natAdd 128 k) c) = aux (bs I is g) g (k.val / 16) (ix2 ⟨k.val % 16, by omega⟩ c) := by
  have hk' : (Fin.natAdd 128 k : Fin 256).val = 128 + k.val := rfl
  generalize (Fin.natAdd 128 k : Fin 256) = k' at hk'
  pointwise [rhs]
  repeat' split
  · omega
  all_goals
    refine aux_congr _ g c ?_ ?_
    · omega
    · dsimp only
      omega

theorem lhs_eye (e : Vec Ideal S128x128 .bf16) (g : ℕ) (p : Fin 128) (k : Fin 128) : lhs I e g (ix2 (Fin.castAdd 16 p) (Fin.castAdd 128 k)) = e (ix2 p k) := by
  pointwise [lhs]
  refine (dif_pos p.isLt).trans ((dif_pos k.isLt).trans ?_)
  apply congrArg e
  funext a; apply Fin.ext
  match a with
  | ⟨0, _⟩ => rfl
  | ⟨1, _⟩ => rfl
theorem lhs_tile (e : Vec Ideal S128x128 .bf16) (g : ℕ) (p : Fin 128) (k : Fin 128) : lhs I e g (ix2 (Fin.castAdd 16 p) (Fin.natAdd 128 k)) = tile I (g / 4) (ix2 p k) := by
  pointwise [lhs]
  refine (dif_pos p.isLt).trans ((dif_neg (by simp only [Fin.val_natAdd]; omega)).trans ?_)
  congr 2; apply Fin.ext; simp only [Fin.val_natAdd]; omega
theorem lhs_twice (e : Vec Ideal S128x128 .bf16) (g : ℕ) (r : Fin 16) (k : Fin 128) : lhs I e g (ix2 (Fin.natAdd 128 r) (Fin.castAdd 128 k)) = aOf I g (ix2 r k) + aOf I g (ix2 r k) := by
  have hr : (⟨(Fin.natAdd 128 r).val - 128, by simp only [Fin.val_natAdd]; omega⟩ : Fin 16) = r := Fin.ext (by simp only [Fin.val_natAdd]; omega)
  pointwise [lhs]
  refine (dif_neg (by simp only [Fin.val_natAdd]; omega)).trans ((dif_pos k.isLt).trans ?_)
  rw [hr]; rfl
theorem lhs_zero (e : Vec Ideal S128x128 .bf16) (g : ℕ) (r : Fin 16) (k : Fin 128) : lhs I e g (ix2 (Fin.natAdd 128 r) (Fin.natAdd 128 k)) = 0 := by
  pointwise [lhs]
  exact (dif_neg (by simp only [Fin.val_natAdd]; omega)).trans (dif_neg (by simp only [Fin.val_natAdd]; omega))

variable {I} {q : Fin 32 → Fin 128 → Fin 512 → ℝ} {s : Fin 32 → Fin 512 → ℝ} {A : Fin 32 → Fin 128 → Fin 8 → ℝ} {h : Fin 8 → Fin 512 → ℝ} (E : Entries I q s A h)

include E

theorem isBuf_apply (g : Fin 32) (c : Fin 512) : rowOf (isBuf I) g (ix2 0 c) = (((s g c)⁻¹ : ℝ) : EReal) := by
  rw [rowOf_apply]
  show isVal I (⟨c.val / 128, by omega⟩ : Fin 4).val (ix2 g ⟨c.val % 128, by omega⟩) = _
  rw [isVal_apply I ⟨c.val / 128, by omega⟩ g ⟨c.val % 128, by omega⟩, show (⟨128 * (c.val / 128) + c.val % 128, by omega⟩ : Fin 512) = c from Fin.ext (by show 128 * (c.val / 128) + c.val % 128 = c.val; omega), E.scale]
  exact (div_real (x := 1) (E.scale_ne g c)).trans (by rw [one_mul])

theorem bs_apply (g : Fin 32) (r : Fin 8) (c : Fin 512) : bs I (isBuf I) g (ix2 r c) = ((h r c * (s g c)⁻¹ : ℝ) : EReal) := by
  pointwise [bs]
  rw [isBuf_apply E, E.b, EReal.coe_mul]

theorem aOf_entry (g : Fin 32) (r : Fin 16) (p : Fin 128) : aOf I g (ix2 r p) = (A g p ⟨r.val % 8, by omega⟩ : EReal) :=
  (aOf_apply I g r p).trans (E.a g r p)
end Cert.KernelIdeal.Value

end
-- ==== Proof.Value.Algebra.lean ====
/- The real algebra behind the squared norms, and what maxima and absolute values of extended reals do under a product. -/
module

public import Idealize.ShloMosaic.Lib.Pointwise

@[expose] public section

noncomputable section

namespace Cert.Algebra

open Idealize.ShloMosaic

theorem coe_sum {ι : Type*} (t : Finset ι) (f : ι → ℝ) : ((∑ i ∈ t, f i : ℝ) : EReal) = ∑ i ∈ t, (f i : EReal) :=
  map_sum (⟨⟨(fun x : ℝ => (x : EReal)), EReal.coe_zero⟩, EReal.coe_add⟩ : ℝ →+ EReal) f t

/-- A sum over a product of two lengths, block by block. -/
theorem sum_split (a b : ℕ) (f : Fin (a * b) → ℝ) :
    ∑ i, f i = ∑ k : Fin a, ∑ r : Fin b, f (finProdFinEquiv (k, r)) := by
  rw [← Fintype.sum_prod_type', ← Equiv.sum_comp finProdFinEquiv]

/-- A sum over 128 rows: blocks of sixteen, each in two halves of eight. -/
theorem sum_halves (f : Fin 128 → ℝ) :
    ∑ p, f p = ∑ r : Fin 8, ((∑ k : Fin 8, f ⟨16 * k.val + r.val, by omega⟩) + ∑ k : Fin 8, f ⟨16 * k.val + (r.val + 8), by omega⟩) := by
  refine (sum_split 8 16 f).trans ?_
  rw [Finset.sum_add_distrib, Finset.sum_comm (s := (Finset.univ : Finset (Fin 8))) (t := (Finset.univ : Finset (Fin 8))),
    Finset.sum_comm (s := (Finset.univ : Finset (Fin 8))) (t := (Finset.univ : Finset (Fin 8))) (f := fun r k => f ⟨16 * k.val + (r.val + 8), by omega⟩),
    ← Finset.sum_add_distrib]
  refine Finset.sum_congr rfl fun k _ => ?_
  refine (Fin.sum_univ_add (a := 8) (b := 8) _).trans (congrArg₂ (· + ·) ?_ ?_)
  · refine Finset.sum_congr rfl fun r _ => congrArg f (Fin.ext ?_)
    show r.val + 16 * k.val = _
    dsimp only; omega
  · refine Finset.sum_congr rfl fun r _ => congrArg f (Fin.ext ?_)
    show 8 + r.val + 16 * k.val = _
    dsimp only; omega

/-- A sum over 128 rows: the even ones and the odd ones. -/
theorem sum_pairs (f : Fin 128 → ℝ) :
    ∑ p, f p = (∑ k : Fin 64, f ⟨2 * k.val, by omega⟩) + ∑ k : Fin 64, f ⟨2 * k.val + 1, by omega⟩ := by
  refine (sum_split 64 2 f).trans ?_
  rw [← Finset.sum_add_distrib]
  refine Finset.sum_congr rfl fun k _ => ?_
  rw [Fin.sum_univ_two]
  refine congrArg₂ (· + ·) (congrArg f (Fin.ext ?_)) (congrArg f (Fin.ext ?_))
  · show 0 + 2 * k.val = 2 * k.val; omega
  · show 1 + 2 * k.val = 2 * k.val + 1; omega

/-- A sum over the 32 groups: one sum for every remainder modulo four. -/
theorem sum_quarters (f : Fin 32 → ℝ) : ∑ g, f g = ∑ gl : Fin 4, ∑ t : Fin 8, f ⟨4 * t.val + gl.val, by omega⟩ := by
  refine (sum_split 8 4 f).trans ?_
  rw [Finset.sum_comm]
  refine Finset.sum_congr rfl fun gl _ => Finset.sum_congr rfl fun t _ => congrArg f (Fin.ext ?_)
  show gl.val + 4 * t.val = _
  dsimp only; omega

/-- The squared norm of a group: its codes, its cross terms and its low-rank part. -/
theorem group_norm (q : Fin 128 → ℝ) (s : ℝ) (hs : s ≠ 0) (A : Fin 128 → Fin 8 → ℝ) (h : Fin 8 → ℝ) :
    ((∑ p, q p ^ 2) + ∑ r, (∑ p, (A p r + A p r) * q p) * (h r * s⁻¹)) * (s * s) + ∑ p, (∑ r, A p r * h r) ^ 2
      = ∑ p, (q p * s + ∑ r, A p r * h r) ^ 2 := by
  have cross : (∑ r, (∑ p, (A p r + A p r) * q p) * (h r * s⁻¹)) * (s * s) = ∑ p, 2 * (q p * s) * ∑ r, A p r * h r := by
    simp only [Finset.sum_mul, Finset.mul_sum]
    rw [Finset.sum_comm]
    refine Finset.sum_congr rfl fun p _ => Finset.sum_congr rfl fun r _ => ?_
    field_simp
    ring
  rw [add_mul, cross, Finset.sum_mul, ← Finset.sum_add_distrib, ← Finset.sum_add_distrib]
  refine Finset.sum_congr rfl fun p _ => ?_
  ring

/-- The low-rank parts of all groups by the Gram matrices of the factor. -/
theorem gram_norm (A : Fin 32 → Fin 128 → Fin 8 → ℝ) (h : Fin 8 → ℝ) :
    ∑ r, (∑ gl : Fin 4, ∑ r', (∑ t : Fin 8, ∑ p, A ⟨4 * t.val + gl.val, by omega⟩ p r * A ⟨4 * t.val + gl.val, by omega⟩ p r') * h r') * h r
      = ∑ g, ∑ p, (∑ r, A g p r * h r) ^ 2 := by
  rw [sum_quarters]
  simp only [sq, Finset.sum_mul, Finset.mul_sum]
  rw [Finset.sum_comm]
  refine Finset.sum_congr rfl fun gl _ => ?_
  symm
  calc _ = ∑ t : Fin 8, ∑ r : Fin 8, ∑ p : Fin 128, ∑ r' : Fin 8, A ⟨4 * t.val + gl.val, by omega⟩ p r * h r * (A ⟨4 * t.val + gl.val, by omega⟩ p r' * h r') := by
        refine Finset.sum_congr rfl fun t _ => ?_
        rw [Finset.sum_comm]
        refine Finset.sum_congr rfl fun r _ => ?_
        first | rfl | (refine Finset.sum_congr rfl fun p _ => Finset.sum_congr rfl fun r' _ => ?_; ring) | rw [Finset.sum_comm]
    _ = ∑ r : Fin 8, ∑ t : Fin 8, ∑ r' : Fin 8, ∑ p : Fin 128, A ⟨4 * t.val + gl.val, by omega⟩ p r * h r * (A ⟨4 * t.val + gl.val, by omega⟩ p r' * h r') := by
        rw [Finset.sum_comm]
        exact Finset.sum_congr rfl fun r _ => Finset.sum_congr rfl fun t _ => Finset.sum_comm
    _ = _ := by
        refine Finset.sum_congr rfl fun r _ => ?_
        rw [Finset.sum_comm]
        refine Finset.sum_congr rfl fun r' _ => Finset.sum_congr rfl fun t _ => Finset.sum_congr rfl fun p _ => ?_
        ring

/-- The absolute value of an extended real. -/
abbrev absE (x : EReal) : EReal := max x (-x)

theorem absE_of_nonneg {x : EReal} (h : 0 ≤ x) : absE x = x := max_eq_left ((EReal.neg_le_neg_iff.2 h).trans (by rw [neg_zero]; exact h))

theorem absE_of_nonpos {x : EReal} (h : x ≤ 0) : absE x = -x :=
  max_eq_right (h.trans (by rw [← neg_zero]; exact EReal.neg_le_neg_iff.2 h))

theorem absE_nonneg (x : EReal) : 0 ≤ absE x := by
  rcases le_total 0 x with h | h
  · exact h.trans (le_max_left _ _)
  · refine le_trans ?_ (le_max_right _ _)
    rw [← neg_zero]; exact EReal.neg_le_neg_iff.2 h

theorem absE_neg (x : EReal) : absE (-x) = absE x := by
  unfold absE; rw [neg_neg, max_comm]

theorem absE_mul (x y : EReal) : absE (x * y) = absE x * absE y := by
  have key : ∀ a b : EReal, 0 ≤ a → 0 ≤ b → absE (a * b) = absE a * absE b := fun a b ha hb => by
    rw [absE_of_nonneg ha, absE_of_nonneg hb, absE_of_nonneg (mul_nonneg ha hb)]
  have flip : ∀ a : EReal, a ≤ 0 → 0 ≤ -a := fun a ha => by rw [← neg_zero]; exact EReal.neg_le_neg_iff.2 ha
  rcases le_total 0 x with hx | hx <;> rcases le_total 0 y with hy | hy
  · exact key x y hx hy
  · have := key x (-y) hx (flip y hy)
    rwa [mul_neg, absE_neg, absE_neg] at this
  · have := key (-x) y (flip x hx) hy
    rwa [neg_mul, absE_neg, absE_neg] at this
  · have := key (-x) (-y) (flip x hx) (flip y hy)
    rwa [neg_mul, mul_neg, neg_neg, absE_neg, absE_neg] at this

/-- A maximum times a number that is not negative is the maximum of the products. -/
theorem max_mul {f : Fin 128 → EReal} {M k : EReal} (hM : ∀ x, M ≤ x ↔ ∀ p, f p ≤ x) (hk : 0 ≤ k) (x : EReal) :
    M * k ≤ x ↔ ∀ p, f p * k ≤ x := by
  have e : M = (Finset.univ : Finset (Fin 128)).sup' Finset.univ_nonempty f :=
    eq_of_forall_ge_iff fun y => by rw [hM, Finset.sup'_le_iff]; simp
  constructor
  · intro h p
    exact (mul_le_mul_of_nonneg_right ((hM M).1 le_rfl p) hk).trans h
  · intro h
    obtain ⟨p, -, hp⟩ := Finset.exists_mem_eq_sup' Finset.univ_nonempty f
    rw [e, hp]; exact h p

theorem ofBits_seven : Ideal.ofBits FTy.f32 1088421888#32 = ((7 : ℝ) : EReal) := by
  simp [Ideal.ofBits, Ideal.ieee, -EReal.coe_mul, -EReal.coe_neg]
  norm_num

theorem ofBits_negSeven : Ideal.ofBits FTy.f32 3235905536#32 = ((-7 : ℝ) : EReal) := by
  simp [Ideal.ofBits, Ideal.ieee, -EReal.coe_mul, -EReal.coe_neg]
  norm_num

theorem ofBits_half : Ideal.ofBits FTy.f32 1056964608#32 = ((1 / 2 : ℝ) : EReal) := by
  simp [Ideal.ofBits, Ideal.ieee, -EReal.coe_mul, -EReal.coe_neg]
  norm_num

/-- The new scale of a group with largest magnitude `a`. -/
def scaleOf (a : EReal) : EReal := if a = 0 then 1 else Ideal.div a (Ideal.ofBits FTy.f32 1088421888#32)

theorem scaleOf_ne (a : EReal) : scaleOf a ≠ 0 := by
  unfold scaleOf
  split
  · exact one_ne_zero
  · rename_i h
    rw [ofBits_seven, Ideal.div, if_neg (by norm_num)]
    refine mul_ne_zero h ?_
    rw [← EReal.coe_inv]; norm_num

/-- The kernel multiplies by a quotient where the reference divides a product. -/
theorem mul_quot (u s C y : EReal) (hy : y ≠ 0) : u * Ideal.div (s * C) y = Ideal.div (u * s * C) y := by
  rw [Ideal.div, Ideal.div, if_neg hy, if_neg hy, ← mul_assoc, ← mul_assoc]

/-- A number rounded to the nearest integer and clipped to the four-bit range. -/
def clipped (x : EReal) : BitVec 32 :=
  FloatOps.fptosi (F := Ideal) (φ := .f32) 32 (min (Ideal.ofBits FTy.f32 1088421888#32) (max (Ideal.ofBits FTy.f32 3235905536#32) (Ideal.liftRound Ideal.roundHalfEven x)))

/-- Two codes in one byte. -/
def packed (x y : BitVec 32) : BitVec 8 :=
  BitVec.setWidth 8 (IntOp.ori (IntOp.andi (BitVec.signExtend 32 (BitVec.setWidth 8 x)) 15#32)
    (IntOp.shli ArithUnit.host (IntOp.andi (BitVec.signExtend 32 (BitVec.setWidth 8 y)) 15#32) 4#32))

theorem low_bits (x : BitVec 8) : IntOp.andi (BitVec.signExtend 32 (BitVec.setWidth 4 x)) 15#32 = IntOp.andi (BitVec.signExtend 32 x) 15#32 := by
  have : ∀ i : Fin 256, IntOp.andi (BitVec.signExtend 32 (BitVec.setWidth 4 (BitVec.ofFin i : BitVec 8))) 15#32 = IntOp.andi (BitVec.signExtend 32 (BitVec.ofFin i : BitVec 8)) 15#32 := by
    decide +kernel
  exact this x.toFin

/-- The value of the low half of a byte. -/
def nibLo (x : BitVec 8) : BitVec 32 :=
  Scalar.select (IntOp.cmpi CmpIPredicate.sge (IntOp.andi (BitVec.setWidth 32 x) 15#32) 8#32)
    (IntOp.subi (IntOp.andi (BitVec.setWidth 32 x) 15#32) 16#32) (IntOp.andi (BitVec.setWidth 32 x) 15#32)

/-- The value of the high half of a byte. -/
def nibHi (x : BitVec 8) : BitVec 32 :=
  Scalar.select (IntOp.cmpi CmpIPredicate.sge (IntOp.shrsi ArithUnit.host (BitVec.setWidth 32 x) 4#32) 8#32)
    (IntOp.subi (IntOp.shrsi ArithUnit.host (BitVec.setWidth 32 x) 4#32) 16#32) (IntOp.shrsi ArithUnit.host (BitVec.setWidth 32 x) 4#32)

theorem nibLo_narrow (x : BitVec 8) : (BitVec.setWidth 4 (nibLo x)).toInt = (nibLo x).toInt := by
  have : ∀ i : Fin 256, (BitVec.setWidth 4 (nibLo (BitVec.ofFin i))).toInt = (nibLo (BitVec.ofFin i)).toInt := by decide +kernel
  exact this x.toFin

theorem nibHi_narrow (x : BitVec 8) : (BitVec.setWidth 4 (nibHi x)).toInt = (nibHi x).toInt := by
  have : ∀ i : Fin 256, (BitVec.setWidth 4 (nibHi (BitVec.ofFin i))).toInt = (nibHi (BitVec.ofFin i)).toInt := by decide +kernel
  exact this x.toFin

end Cert.Algebra

end
-- ==== Proof.Value.Merge.lean ====
/- The entries of the merge product and of what the squared norms accumulate. -/
module

public import proofs.«01_k».proof.Proof.Value.Read
public import proofs.«01_k».proof.Proof.Value.Algebra
public import Idealize.ShloMosaic.Lib.Pointwise

@[expose] public section

set_option maxRecDepth 16384

noncomputable section

namespace Cert.KernelIdeal.Value

open Cert.Algebra (coe_sum)
open Idealize.ShloMosaic Idealize.ShloMosaic.TcCoe
open Facts₀ Facts
open Cert.Exec (iter)

variable [Facts] (I : In Ideal)

/-- The identity matrix at the ideal values. -/
abbrev eyeIdeal [Facts] : Vec Ideal S128x128 .bf16 := eyeVal (F := Ideal)

variable {I} {q : Fin 32 → Fin 128 → Fin 512 → ℝ} {s : Fin 32 → Fin 512 → ℝ} {A : Fin 32 → Fin 128 → Fin 8 → ℝ} {h : Fin 8 → Fin 512 → ℝ} (E : Entries I q s A h)

include E

/-- The sum of products over the eight blocks under the codes: only the group's own eight rows count. -/
theorem aux_sum (g : Fin 32) (c : Fin 512) (f : Fin 128 → EReal) :
    ∑ k : Fin 128, f k * rhs I (isBuf I) g (ix2 (Fin.natAdd 128 k) c)
      = ∑ r : Fin 8, f ⟨32 * (g.val % 4) + r.val, by omega⟩ * ((h r c * (s g c)⁻¹ : ℝ) : EReal) := by
  have hx : ∀ r c, ∃ v : ℝ, bs I (isBuf I) g (ix2 r c) = (v : EReal) := fun r c => ⟨_, bs_apply E g r c⟩
  symm
  refine Finset.sum_of_injOn (fun r : Fin 8 => (⟨32 * (g.val % 4) + r.val, by omega⟩ : Fin 128)) ?_ (fun _ _ => Finset.mem_coe.2 (Finset.mem_univ _)) ?_ ?_
  · intro a _ b _ hab
    have := congrArg Fin.val hab
    dsimp only at this
    exact Fin.ext (by omega)
  · intro k _ hk
    rw [rhs_aux, aux_apply _ hx, dif_neg, mul_zero]
    rintro ⟨h1, h2⟩
    dsimp only at h2
    refine hk ⟨⟨k.val % 16, h2⟩, Finset.mem_coe.2 (Finset.mem_univ _), Fin.ext ?_⟩
    dsimp only
    omega
  · intro r _
    rw [rhs_aux, aux_apply _ hx, dif_pos ⟨by dsimp only; omega, by dsimp only; omega⟩, ← bs_apply E g r c]
    congr 2
    · congr 1
      exact Fin.ext (by dsimp only; omega)

/-- The merged group: the codes and the product of the factors over the scale. -/
theorem ut_top (g : Fin 32) (p : Fin 128) (c : Fin 512) :
    ut I eyeIdeal (isBuf I) g (ix2 (Fin.castAdd 16 p) c) = ((q g p c + ∑ r : Fin 8, A g p r * (h r c * (s g c)⁻¹) : ℝ) : EReal) := by
  have : ut I eyeIdeal (isBuf I) g (ix2 (Fin.castAdd 16 p) c) = ∑ k : Fin (128 + 128), lhs I eyeIdeal g (ix2 (Fin.castAdd 16 p) k) * rhs I (isBuf I) g (ix2 k c) := by
    pointwise [ut]
  rw [this, Fin.sum_univ_add, EReal.coe_add]
  congr 1
  · rw [Finset.sum_eq_single p]
    · rw [lhs_eye, rhs_code, show eyeIdeal (ix2 p p) = _ from eye_apply p p, if_pos rfl, one_mul, E.code]
    · intro k _ hk
      rw [lhs_eye, show eyeIdeal (ix2 p k) = _ from eye_apply p k, if_neg (Ne.symm hk), zero_mul]
    · intro hp; exact absurd (Finset.mem_univ _) hp
  · rw [aux_sum E, coe_sum]
    refine Finset.sum_congr rfl fun r _ => ?_
    rw [lhs_tile, tile_apply, EReal.coe_mul]
    congr 1
    have hr : r.val < 16 := by omega
    refine Eq.trans (congrArg (· * ((h r c : EReal) * (((s g c)⁻¹ : ℝ) : EReal))) (aOf_congr I (g' := g.val) (r' := ⟨r.val, hr⟩) p ?_ ?_)) ?_
    · dsimp only; omega
    · dsimp only; omega
    rw [aOf_entry E]

    rw [EReal.coe_mul]; exact congrArg (fun z : Fin 8 => ((A g p z : ℝ) : EReal) * _) (Fin.ext (Nat.mod_eq_of_lt r.2))

theorem ut_bottom (g : Fin 32) (r : Fin 16) (c : Fin 512) :
    ut I eyeIdeal (isBuf I) g (ix2 (Fin.natAdd 128 r) c) = ((∑ p : Fin 128, (A g p ⟨r.val % 8, by omega⟩ + A g p ⟨r.val % 8, by omega⟩) * q g p c : ℝ) : EReal) := by
  have : ut I eyeIdeal (isBuf I) g (ix2 (Fin.natAdd 128 r) c) = ∑ k : Fin (128 + 128), lhs I eyeIdeal g (ix2 (Fin.natAdd 128 r) k) * rhs I (isBuf I) g (ix2 k c) := by
    pointwise [ut]
  rw [this, Fin.sum_univ_add, Finset.sum_eq_zero (s := (Finset.univ : Finset (Fin 128))) (f := fun k => lhs I eyeIdeal g (ix2 (Fin.natAdd 128 r) (Fin.natAdd 128 k)) * rhs I (isBuf I) g (ix2 (Fin.natAdd 128 k) c)) (fun k _ => by rw [lhs_zero, zero_mul]), add_zero, coe_sum]
  refine Finset.sum_congr rfl fun p _ => ?_
  rw [lhs_twice, rhs_code, E.code, aOf_entry E, EReal.coe_mul, EReal.coe_add]

/-- A real column of a tile. -/
theorem uVal_apply (g : Fin 32) (p : Fin 128) (c : Fin 512) :
    uVal I eyeIdeal (isBuf I) g (ix2 p c) = ((q g p c + ∑ r : Fin 8, A g p r * (h r c * (s g c)⁻¹) : ℝ) : EReal) := by
  rw [← ut_top E]
  pointwise [uVal]
  rfl

omit E

theorem sqUpTo_apply (Q : FVec Ideal S128x512 .bf16) (j n : ℕ) (i : S16x128.Idx) :
    sqUpTo Q j n i = ∑ k ∈ Finset.range (n + 1), q16 Q j k i * q16 Q j k i := by
  induction n with
  | zero => rw [Finset.sum_range_one]; rfl
  | succ n ih => rw [Finset.sum_range_succ, ← ih]; rfl

include E

theorem q16_apply (g : Fin 32) (j : Fin 4) (k : Fin 8) (r : Fin 16) (l : Fin 128) :
    q16 (qVal I g) j k (ix2 r l) = (q g ⟨16 * k.val + r.val, by omega⟩ ⟨128 * j.val + l.val, by omega⟩ : EReal) := by
  rw [← E.code]
  pointwise [q16]
  congr 1
  congr 1 <;> (apply Fin.ext; dsimp only; omega)

theorem sq_apply (g : Fin 32) (j : Fin 4) (r : Fin 16) (l : Fin 128) :
    sqUpTo (qVal I g) j 7 (ix2 r l) = ((∑ k : Fin 8, q g ⟨16 * k.val + r.val, by omega⟩ ⟨128 * j.val + l.val, by omega⟩ ^ 2 : ℝ) : EReal) := by
  rw [sqUpTo_apply, Finset.sum_range, coe_sum]
  refine Finset.sum_congr rfl fun k _ => ?_
  rw [q16_apply E, ← EReal.coe_mul, sq]

theorem wVal_apply (g : Fin 32) (j : Fin 4) (r : Fin 8) (l : Fin 128) (c : Fin 512) (hc : c.val = 128 * j.val + l.val) :
    wVal (qVal I g) (ut I eyeIdeal (isBuf I) g) (bs I (isBuf I) g) j (ix2 r l)
      = (((∑ k : Fin 8, q g ⟨16 * k.val + r.val, by omega⟩ c ^ 2) + (∑ k : Fin 8, q g ⟨16 * k.val + (r.val + 8), by omega⟩ c ^ 2)
        + (∑ p : Fin 128, (A g p r + A g p r) * q g p c) * (h r c * (s g c)⁻¹) : ℝ) : EReal) := by
  have hlt : 128 * j.val + l.val < 512 := by omega
  have hcc : c = ⟨128 * j.val + l.val, hlt⟩ := Fin.ext hc
  clear hc
  subst hcc
  have h1 := sq_apply E g j ⟨r.val, by omega⟩ l
  have h2 := sq_apply E g j ⟨r.val + 8, by omega⟩ l
  have h3 := ut_bottom E g ⟨r.val, by omega⟩ ⟨128 * j.val + l.val, by omega⟩
  have h4 := bs_apply E g r ⟨128 * j.val + l.val, by omega⟩
  rw [EReal.coe_add, EReal.coe_add, EReal.coe_mul, ← h1, ← h2, ← h4]
  have h3' : (⟨(⟨r.val, by omega⟩ : Fin 16).val % 8, by omega⟩ : Fin 8) = r := Fin.ext (by dsimp only; omega)
  rw [h3'] at h3
  rw [← h3]
  pointwise [wVal]
  have c1 : ∀ {a b : Fin 16}, a.val = b.val → sqUpTo (qVal I g) j 7 (ix2 a l) = sqUpTo (qVal I g) j 7 (ix2 b l) := fun e => by
    obtain rfl := Fin.ext e; rfl
  have c2 : ∀ {a b : Fin 144} {x y : Fin 512}, a.val = b.val → x.val = y.val → ut I eyeIdeal (isBuf I) g (ix2 a x) = ut I eyeIdeal (isBuf I) g (ix2 b y) := fun e e' => by
    obtain rfl := Fin.ext e; obtain rfl := Fin.ext e'; rfl
  have c3 : ∀ {x y : Fin 512}, x.val = y.val → bs I (isBuf I) g (ix2 r x) = bs I (isBuf I) g (ix2 r y) := fun e' => by
    obtain rfl := Fin.ext e'; rfl
  refine congrArg₂ (· + ·) (congrArg₂ (· + ·) rfl (c1 ?_)) (congrArg₂ (· * ·) (c2 rfl ?_) (c3 ?_))
  · exact Nat.add_comm _ _
  · dsimp only; omega
  · dsimp only; omega
end Cert.KernelIdeal.Value
end
-- ==== Proof.Value.Gram.lean ====
/- The entries of the low-rank part of the squared norms. -/
module

public import proofs.«01_k».proof.Proof.Value.Read
public import proofs.«01_k».proof.Proof.Value.Algebra
public import Idealize.ShloMosaic.Lib.Pointwise

@[expose] public section

set_option maxRecDepth 16384

noncomputable section

namespace Cert.KernelIdeal.Value

open Cert.Algebra (coe_sum)
open Idealize.ShloMosaic Idealize.ShloMosaic.TcCoe
open Facts₀ Facts
open Cert.Exec (iter)

variable [Facts] (I : In Ideal)

variable {I} {q : Fin 32 → Fin 128 → Fin 512 → ℝ} {s : Fin 32 → Fin 512 → ℝ} {A : Fin 32 → Fin 128 → Fin 8 → ℝ} {h : Fin 8 → Fin 512 → ℝ} (E : Entries I q s A h)

theorem aRow_apply (gl : ℕ) (hgl : gl < 4) (r : Fin 16) (x : Fin 1024) : aRow I gl (ix2 r x) = aOf I (4 * (x.val / 128) + gl) (ix2 r ⟨x.val % 128, by omega⟩) := by
  have aux : ∀ {g g' : ℕ} {p p' : Fin 128}, g = g' → p.val = p'.val → aOf I g (ix2 r p) = aOf I g' (ix2 r p') := fun hg hp => by
    obtain rfl := hg; obtain rfl := Fin.ext hp; rfl
  pointwise [aRow]
  repeat' split
  all_goals
    refine aux ?_ ?_
    · omega
    · try dsimp only
      omega

theorem bq_apply (x : Fin 128) (c : Fin 512) : bq I (ix2 x c) = if hx : x.val % 32 < 8 then bh I (ix2 ⟨x.val % 32, hx⟩ c) else 0 := by
  have aux : ∀ {r r' : Fin 8}, r.val = r'.val → bh I (ix2 r c) = bh I (ix2 r' c) := fun hp => by
    obtain rfl := Fin.ext hp; rfl
  pointwise [bq]
  repeat' split
  all_goals first
    | (exfalso; omega)
    | (refine aux ?_; try dsimp only
       omega)
    | exact rfl

theorem gram_apply (r : Fin 64) (k : Fin 128) : gram I (ix2 r k) = ∑ x : Fin 1024, aRow I (r.val / 16) (ix2 ⟨r.val % 16, by omega⟩ x) * tile I (x.val / 128) (ix2 ⟨x.val % 128, by omega⟩ k) := by
  have aux1 : ∀ {g g' : ℕ} {p p' : Fin 16} (x : Fin 1024), g = g' → p.val = p'.val → aRow I g (ix2 p x) = aRow I g' (ix2 p' x) := fun x hg hp => by
    obtain rfl := hg; obtain rfl := Fin.ext hp; rfl
  have aux2 : ∀ {g g' : ℕ} {p p' : Fin 128}, g = g' → p.val = p'.val → tile I g (ix2 p k) = tile I g' (ix2 p' k) := fun hg hp => by
    obtain rfl := hg; obtain rfl := Fin.ext hp; rfl
  pointwise [gram]
  refine Finset.sum_congr rfl fun x _ => ?_
  congr 1
  · repeat' split
    all_goals
      refine aux1 x ?_ ?_
      · omega
      · try dsimp only
        omega
  · repeat' split
    all_goals
      refine aux2 ?_ ?_
      · omega
      · try dsimp only
        omega

/-- Which columns of the Gram matrix a residue keeps. -/
theorem keep_apply : ∀ (gl : Fin 4) (k : Fin 128),
    IntOp.andi (IntOp.cmpi .sge (BitVec.ofNat 32 k.val) (BitVec.ofNat 32 (32 * gl.val))) (IntOp.cmpi .slt (BitVec.ofNat 32 k.val) (BitVec.ofNat 32 (32 * gl.val + 8)))
      = if 32 * gl.val ≤ k.val ∧ k.val < 32 * gl.val + 8 then 1#1 else 0#1 := by
  decide +kernel

theorem gramPart_apply (G : FVec Ideal S64x128 .f32) (gl : Fin 4) (r : Fin 8) (k : Fin 128) :
    gramPart G gl (BitVec.ofNat 32 (32 * gl.val)) (BitVec.ofNat 32 (32 * gl.val + 8)) (ix2 r k) = if 32 * gl.val ≤ k.val ∧ k.val < 32 * gl.val + 8 then G (ix2 ⟨16 * gl.val + r.val, by omega⟩ k) else 0 := by
  have aux : ∀ {p p' : Fin 64}, p.val = p'.val → G (ix2 p k) = G (ix2 p' k) := fun hp => by
    obtain rfl := Fin.ext hp; rfl
  pointwise [gramPart]
  rw [keep_apply]
  by_cases h : 32 * gl.val ≤ k.val ∧ k.val < 32 * gl.val + 8
  · rw [if_pos h, if_pos h]
    refine (if_pos rfl).trans (aux ?_)
    dsimp only; omega
  · rw [if_neg h, if_neg h]
    exact if_neg (by decide)

theorem gramSum_apply (r : Fin 8) (k : Fin 128) : gramSum I (ix2 r k) = if k.val % 32 < 8 then gram I (ix2 ⟨16 * (k.val / 32) + r.val, by omega⟩ k) else 0 := by
  have aux : ∀ {p p' : Fin 64}, p.val = p'.val → gram I (ix2 p k) = gram I (ix2 p' k) := fun hp => by
    obtain rfl := Fin.ext hp; rfl
  have h0 := gramPart_apply (gram I) 0 r k
  have h1 := gramPart_apply (gram I) 1 r k
  have h2 := gramPart_apply (gram I) 2 r k
  have h3 := gramPart_apply (gram I) 3 r k
  pointwise [gramSum]
  rw [show gramPart (gram I) 0 (0#32) (8#32) (ix2 r k) = _ from h0, show gramPart (gram I) 1 (32#32) (40#32) (ix2 r k) = _ from h1,
    show gramPart (gram I) 2 (64#32) (72#32) (ix2 r k) = _ from h2, show gramPart (gram I) 3 (96#32) (104#32) (ix2 r k) = _ from h3]
  have e0 : ((0 : Fin 4).val) = 0 := rfl
  have e1 : ((1 : Fin 4).val) = 1 := rfl
  have e2 : ((2 : Fin 4).val) = 2 := rfl
  have e3 : ((3 : Fin 4).val) = 3 := rfl
  simp only [e0, e1, e2, e3]
  repeat' split
  all_goals first
    | (exfalso; omega)
    | (simp only [add_zero, zero_add]; refine aux ?_; dsimp only; omega)
    | simp only [add_zero, zero_add]

theorem pad8_apply (x : FVec Ideal S8x128 .f32) (r : Fin 8) (k : Fin 128) : pad8 x (ix2 ⟨r.val, by omega⟩ k) = x (ix2 r k) := by
  pointwise [pad8]

theorem gb_apply (hG : ∀ r k, ∃ v : ℝ, gramSum I (ix2 r k) = (v : EReal)) (r : Fin 8) (c : Fin 512) : gb I (ix2 ⟨r.val, by omega⟩ c) = ∑ x : Fin 128, gramSum I (ix2 r x) * bq I (ix2 x c) := by
  have aux : ∀ {p p' : Fin 128}, p.val = p'.val → gramSum I (ix2 r p) * bq I (ix2 p c) = gramSum I (ix2 r p') * bq I (ix2 p' c) := fun hp => by
    obtain rfl := Fin.ext hp; rfl
  pointwise [gb]
  refine (Fin.sum_univ_add (a := 128) (b := 256) _).trans ?_
  refine (congrArg₂ (· + ·) (Finset.sum_congr rfl fun x _ => ?_) (Finset.sum_eq_zero fun x _ => ?_)).trans (add_zero _)
  · have hx : (Fin.castAdd 256 x).val < 128 := x.isLt
    rw [dif_pos hx, dif_pos hx, pad8_apply]
    rfl
  · have hx : ¬ (Fin.natAdd 128 x).val < 128 := by rw [Fin.val_natAdd]; omega
    rw [dif_neg hx]
    split
    · rename_i h
      obtain ⟨v, hv⟩ := hG r ⟨(Fin.natAdd 128 x).val - 128, h⟩
      rw [pad8_apply, midOf_apply _ _ v hv, zero_mul]
    · rename_i h
      obtain ⟨v, hv⟩ := hG r ⟨(Fin.natAdd 128 x).val - 128 - 128, by rw [Fin.val_natAdd]; omega⟩
      rw [pad8_apply, loOf_apply _ _ v hv, zero_mul]

theorem ddVal_apply (r : Fin 8) (c : Fin 512) : ddVal I (ix2 r c) = gb I (ix2 ⟨r.val, by omega⟩ c) * bh I (ix2 r c) := by
  pointwise [ddVal]

include E

/-- The Gram matrix of the groups of one residue. -/
theorem gram_entry (gl : Fin 4) (r r' : Fin 8) :
    gram I (ix2 ⟨16 * gl.val + r.val, by omega⟩ ⟨32 * gl.val + r'.val, by omega⟩)
      = ((∑ t : Fin 8, ∑ p : Fin 128, A ⟨4 * t.val + gl.val, by omega⟩ p r * A ⟨4 * t.val + gl.val, by omega⟩ p r' : ℝ) : EReal) := by
  rw [gram_apply, ← Finset.sum_product', coe_sum]
  refine Finset.sum_bij' (fun x _ => ((⟨x.val / 128, by omega⟩ : Fin 8), (⟨x.val % 128, by omega⟩ : Fin 128))) (fun y _ => (⟨128 * y.1.val + y.2.val, by omega⟩ : Fin 1024))
    (fun _ _ => Finset.mem_univ _) (fun _ _ => Finset.mem_univ _) ?_ ?_ ?_
  · intro x _; exact Fin.ext (by dsimp only; omega)
  · intro y _; exact Prod.ext (Fin.ext (by dsimp only; omega)) (Fin.ext (by dsimp only; omega))
  · intro x _
    dsimp only
    rw [aRow_apply _ (by omega), tile_apply, EReal.coe_mul]
    have e1 := aOf_entry E ⟨4 * (x.val / 128) + gl.val, by omega⟩ ⟨r.val, by omega⟩ ⟨x.val % 128, by omega⟩
    have e2 := aOf_entry E ⟨4 * (x.val / 128) + gl.val, by omega⟩ ⟨r'.val, by omega⟩ ⟨x.val % 128, by omega⟩
    have f1 : ∀ r : Fin 8, (⟨(⟨r.val, by omega⟩ : Fin 16).val % 8, by omega⟩ : Fin 8) = r := fun r => Fin.ext (by dsimp only; omega)
    rw [f1] at e1 e2
    rw [← e1, ← e2]
    congr 1
    · exact aOf_congr I _ (by dsimp only; omega) (by dsimp only; omega)
    · exact aOf_congr I _ (by dsimp only; omega) (by dsimp only; omega)

theorem gramSum_entry (r : Fin 8) (k : Fin 128) (gl : Fin 4) (r' : Fin 8) (hk : k.val = 32 * gl.val + r'.val) :
    gramSum I (ix2 r k) = ((∑ t : Fin 8, ∑ p : Fin 128, A ⟨4 * t.val + gl.val, by omega⟩ p r * A ⟨4 * t.val + gl.val, by omega⟩ p r' : ℝ) : EReal) := by
  have hlt : 32 * gl.val + r'.val < 128 := by omega
  have hkk : k = ⟨32 * gl.val + r'.val, hlt⟩ := Fin.ext hk
  clear hk
  subst hkk
  rw [gramSum_apply, if_pos (by dsimp only; omega), ← gram_entry E]
  have aux : ∀ {p p' : Fin 64} {k : Fin 128}, p.val = p'.val → gram I (ix2 p k) = gram I (ix2 p' k) := fun hp => by
    obtain rfl := Fin.ext hp; rfl
  exact aux (by dsimp only; omega)

theorem gramSum_real (r : Fin 8) (k : Fin 128) : ∃ v : ℝ, gramSum I (ix2 r k) = (v : EReal) := by
  by_cases h : k.val % 32 < 8
  · exact ⟨_, gramSum_entry E r k ⟨k.val / 32, by omega⟩ ⟨k.val % 32, h⟩ (by dsimp only; omega)⟩
  · exact ⟨0, by rw [gramSum_apply, if_neg h]; rfl⟩

/-- The part of the squared norm the factors give. -/
theorem ddVal_entry (r : Fin 8) (c : Fin 512) :
    ddVal I (ix2 r c) = (((∑ gl : Fin 4, ∑ r' : Fin 8, (∑ t : Fin 8, ∑ p : Fin 128, A ⟨4 * t.val + gl.val, by omega⟩ p r * A ⟨4 * t.val + gl.val, by omega⟩ p r') * h r' c) * h r c : ℝ) : EReal) := by
  rw [ddVal_apply, gb_apply (gramSum_real E), E.b, EReal.coe_mul]
  congr 1
  rw [← Finset.sum_product', coe_sum]
  symm
  refine Finset.sum_of_injOn (fun y : Fin 4 × Fin 8 => (⟨32 * y.1.val + y.2.val, by omega⟩ : Fin 128)) ?_ (fun _ _ => Finset.mem_coe.2 (Finset.mem_univ _)) ?_ ?_
  · intro a _ b _ hab
    have := congrArg Fin.val hab
    dsimp only at this
    exact Prod.ext (Fin.ext (by omega)) (Fin.ext (by omega))
  · intro k _ hk
    rw [gramSum_apply, if_neg, zero_mul]
    intro h2
    refine hk ⟨(⟨k.val / 32, by omega⟩, ⟨k.val % 32, h2⟩), Finset.mem_coe.2 (Finset.mem_univ _), Fin.ext ?_⟩
    dsimp only; omega
  · intro y _
    rw [EReal.coe_mul, gramSum_entry E r _ y.1 y.2 rfl, bq_apply, dif_pos (by dsimp only; omega), E.b]
    congr 3
    exact Fin.ext (by dsimp only; omega)

end Cert.KernelIdeal.Value
end
-- ==== Proof.Value.Tile.lean ====
/- The values of the finishing phase of a tile: its squared norms, its largest magnitudes, its scales and its codes. -/
module

public import proofs.«01_k».proof.Proof.Value.Merge
public import proofs.«01_k».proof.Proof.Value.Gram

@[expose] public section

set_option maxRecDepth 16384

noncomputable section

namespace Cert.KernelIdeal.Value

open Cert.Algebra (coe_sum absE absE_mul absE_nonneg max_mul scaleOf scaleOf_ne clipped packed low_bits mul_quot)
open Idealize.ShloMosaic Idealize.ShloMosaic.TcCoe
open Facts₀ Facts

section Reads

variable [Facts] (I : In Ideal)

theorem ldLane_apply (X : Vec Ideal S4x256x128 .f32) (j r : ℕ) (g : Fin 32) (l : Fin 128) :
    ldLane X j r (ix2 g l) = X (ix3 ⟨j % 4, Nat.mod_lt _ (by decide)⟩ ⟨r % 8 + 8 * g.val, by omega⟩ l) := by
  pointwise [ldLane]

theorem ldPlane_apply (X : Vec Ideal S4x32x128 .f32) (j : ℕ) (g : Fin 32) (l : Fin 128) :
    ldPlane X j (ix2 g l) = X (ix3 ⟨j % 4, Nat.mod_lt _ (by decide)⟩ g l) := by
  pointwise [ldPlane]

theorem ssVal_apply (w : Vec Ideal S4x256x128 .f32) (s : Vec Ideal S4x32x128 .f32) (dd : Vec Ideal S4x8x128 .f32) (j : ℕ) (l : Fin 128) :
    ssVal w s dd j (ix2 0 l) = (∑ g : Fin 32, wAll w j 7 (ix2 g l) * (ldPlane s j (ix2 g l) * ldPlane s j (ix2 g l))) + ∑ r : Fin 8, dd (ix3 ⟨j % 4, Nat.mod_lt _ (by decide)⟩ r l) := by
  pointwise [ssVal]

theorem cVal_apply (w : Vec Ideal S4x256x128 .f32) (s : Vec Ideal S4x32x128 .f32) (dd : Vec Ideal S4x8x128 .f32) (j : ℕ) (l : Fin 128) :
    cVal I w s dd j (ix2 0 l) = Ideal.div (I.m (ix3 0 0 ⟨128 * (j % 4) + l.val, by omega⟩)) (Ideal.sqrt (ssVal w s dd j (ix2 0 l))) := by
  pointwise [cVal]

theorem amaxVal_apply (σ : St Ideal) (j : ℕ) (g : Fin 32) (l : Fin 128) :
    amaxVal I σ j (ix2 g l) = mxAll σ.mx j 7 (ix2 g l) * max (ldPlane σ.s j (ix2 g l)) (-ldPlane σ.s j (ix2 g l)) * max (cVal I σ.w σ.s σ.dd j (ix2 0 l)) (-cVal I σ.w σ.s σ.dd j (ix2 0 l)) := by
  pointwise [amaxVal]
  exact rfl

theorem oscVal_apply (σ : St Ideal) (j : ℕ) (g : Fin 32) (l : Fin 128) :
    oscVal I σ j (ix2 g l) = if amaxVal I σ j (ix2 g l) = 0 then 1 else Ideal.div (amaxVal I σ j (ix2 g l)) (Ideal.ofBits FTy.f32 1088421888#32) := by
  pointwise [oscVal]

theorem rhoVal_apply (σ : St Ideal) (j : ℕ) (g : Fin 32) (l : Fin 128) :
    rhoVal I σ j (ix2 g l) = Ideal.div (ldPlane σ.s j (ix2 g l) * cVal I σ.w σ.s σ.dd j (ix2 0 l)) (oscVal I σ j (ix2 g l)) := by
  pointwise [rhoVal]

theorem codes4_apply (u : Vec Ideal S4096x512 .f32) (rho : Vec Ideal S4x32x128 .f32) (g : Fin 32) (p : Fin 128) (c : Fin 512) :
    codes4 u rho g (ix2 p c) = BitVec.setWidth 4 (BitVec.setWidth 8 (FloatOps.fptosi (F := Ideal) (φ := .f32) 32 (min (Ideal.ofBits FTy.f32 1088421888#32) (max (Ideal.ofBits FTy.f32 3235905536#32) (Ideal.liftRound Ideal.roundHalfEven (u (ix2 ⟨128 * g.val + p.val, by omega⟩ c) * rowOf rho g (ix2 0 c))))))) := by
  have e : ∀ {a b : Fin 4096}, a.val = b.val → u (ix2 a c) = u (ix2 b c) := fun e => by obtain rfl := Fin.ext e; rfl
  pointwise [codes4]
  refine congrArg (fun z => BitVec.setWidth 4 (BitVec.setWidth 8 (FloatOps.fptosi (F := Ideal) (φ := .f32) 32 (min (Ideal.ofBits FTy.f32 1088421888#32) (max (Ideal.ofBits FTy.f32 3235905536#32) (Ideal.liftRound Ideal.roundHalfEven (z * rowOf rho g (ix2 0 c)))))))) (e ?_)
  dsimp only; omega

theorem pack4_apply (x : IVec S128x512 4) (p : Fin 64) (c : Fin 512) :
    pack4 x (ix2 p c) = BitVec.setWidth 8 (IntOp.ori (IntOp.andi (BitVec.signExtend 32 (x (ix2 ⟨p.val * 2, by omega⟩ c))) 15#32) (IntOp.shli ArithUnit.vector (IntOp.andi (BitVec.signExtend 32 (x (ix2 ⟨p.val * 2 + 1, by omega⟩ c))) 15#32) 4#32)) := by
  pointwise [pack4]

theorem wAll_apply (X : Vec Ideal S4x256x128 .f32) (j : ℕ) (g : Fin 32) (l : Fin 128) :
    wAll X j 7 (ix2 g l) = ∑ r : Fin 8, X (ix3 ⟨j % 4, Nat.mod_lt _ (by decide)⟩ ⟨r.val + 8 * g.val, by omega⟩ l) := by
  rw [Fin.sum_univ_eight]
  pointwise [wAll]
  simp only [ldLane_apply, Nat.reduceMod, Nat.zero_add, zero_add]

theorem mxAll_le (X : Vec Ideal S4x256x128 .f32) (j : ℕ) (g : Fin 32) (l : Fin 128) (x : EReal) :
    mxAll X j 7 (ix2 g l) ≤ x ↔ ∀ r : Fin 8, X (ix3 ⟨j % 4, Nat.mod_lt _ (by decide)⟩ ⟨r.val + 8 * g.val, by omega⟩ l) ≤ x := by
  have step : ∀ n, n < 8 → (mxAll X j n (ix2 g l) ≤ x ↔ ∀ r : Fin 8, r.val ≤ n → X (ix3 ⟨j % 4, Nat.mod_lt _ (by decide)⟩ ⟨r.val + 8 * g.val, by omega⟩ l) ≤ x) := by
    intro n
    induction n with
    | zero =>
      intro _
      rw [mxAll, ldLane_apply]
      constructor
      · intro h r hr
        obtain rfl : r = 0 := Fin.ext (by show r.val = 0; omega)
        exact h
      · intro h; exact h 0 le_rfl
    | succ n ih =>
      intro hn
      have e : mxAll X j (n + 1) (ix2 g l) = max (mxAll X j n (ix2 g l)) (ldLane X j (n + 1) (ix2 g l)) := rfl
      have hX : ∀ {a b : Fin 256}, a.val = b.val → X (ix3 ⟨j % 4, Nat.mod_lt _ (by decide)⟩ a l) = X (ix3 ⟨j % 4, Nat.mod_lt _ (by decide)⟩ b l) := fun e => by
        obtain rfl := Fin.ext e; rfl
      rw [e, max_le_iff, ih (by omega), ldLane_apply]
      constructor
      · rintro ⟨h1, h2⟩ r hr
        rcases Nat.lt_or_ge r.val (n + 1) with h | h
        · exact h1 r (by omega)
        · refine le_of_eq_of_le (hX ?_) h2
          dsimp only; omega
      · intro h
        refine ⟨fun r hr => h r (by omega), le_of_eq_of_le (hX ?_) (h ⟨n + 1, hn⟩ le_rfl)⟩
        dsimp only; omega
  rw [step 7 (by decide)]
  exact forall_congr' fun r => ⟨fun h => h (by omega), fun h _ => h⟩

theorem mxUpTo_le (U : FVec Ideal S128x512 .f32) (j : Fin 4) (r : Fin 8) (l : Fin 128) (x : EReal) (c : Fin 512) (hc : c.val = 128 * j.val + l.val) :
    mxUpTo U j 15 (ix2 r l) ≤ x ↔ ∀ k : Fin 16, absE (U (ix2 ⟨8 * k.val + r.val, by omega⟩ c)) ≤ x := by
  have hU : ∀ {a b : Fin 128} {y z : Fin 512}, a.val = b.val → y.val = z.val → absE (U (ix2 a y)) = absE (U (ix2 b z)) := fun e e' => by
    obtain rfl := Fin.ext e; obtain rfl := Fin.ext e'; rfl
  have one : ∀ k : Fin 16, (absf (extractStridedSlice S8x128 ![8 * (k.val % 16), 128 * (j.val % 4)] U (sl_8 k.val j.val)) : FVec Ideal S8x128 .f32) (ix2 r l)
      = absE (U (ix2 ⟨8 * k.val + r.val, by omega⟩ c)) := by
    intro k
    pointwise
    refine hU ?_ ?_
    · dsimp only; omega
    · dsimp only; omega
  have step : ∀ n, n < 16 → (mxUpTo U j n (ix2 r l) ≤ x ↔ ∀ k : Fin 16, k.val ≤ n → absE (U (ix2 ⟨8 * k.val + r.val, by omega⟩ c)) ≤ x) := by
    intro n
    induction n with
    | zero =>
      intro _
      rw [mxUpTo, show (absf (extractStridedSlice S8x128 ![8 * (0 % 16), 128 * (j.val % 4)] U (sl_8 0 j.val)) : FVec Ideal S8x128 .f32) (ix2 r l) = _ from one 0]
      constructor
      · intro h k hk
        obtain rfl : k = 0 := Fin.ext (by show k.val = 0; omega)
        exact h
      · intro h; exact h 0 le_rfl
    | succ n ih =>
      intro hn
      have e : mxUpTo U j (n + 1) (ix2 r l) = max (mxUpTo U j n (ix2 r l)) ((absf (extractStridedSlice S8x128 ![8 * ((n + 1) % 16), 128 * (j.val % 4)] U (sl_8 (n + 1) j.val)) : FVec Ideal S8x128 .f32) (ix2 r l)) := rfl
      rw [e, max_le_iff, ih (by omega), show (absf (extractStridedSlice S8x128 ![8 * ((n + 1) % 16), 128 * (j.val % 4)] U (sl_8 (n + 1) j.val)) : FVec Ideal S8x128 .f32) (ix2 r l) = _ from one ⟨n + 1, hn⟩]
      constructor
      · rintro ⟨h1, h2⟩ k hk
        rcases Nat.lt_or_ge k.val (n + 1) with h | h
        · exact h1 k (by omega)
        · obtain rfl : k = ⟨n + 1, hn⟩ := Fin.ext (by show k.val = n + 1; omega)
          exact h2
      · intro h
        exact ⟨fun k hk => h k (by omega), h ⟨n + 1, hn⟩ le_rfl⟩
  rw [step 15 (by decide)]
  exact forall_congr' fun k => ⟨fun h => h (by omega), fun h _ => h⟩

section Buffers

attribute [local irreducible] wVal ut bs qVal isBuf mxUpTo uVal

theorem wBuf_apply (j : Fin 4) (g : Fin 32) (r : Fin 8) (l : Fin 128) (k : Fin 256) (hk : k.val = r.val + 8 * g.val) :
    wBuf I (ix3 j k l) = wVal (qVal I g) (ut I eyeIdeal (isBuf I) g) (bs I (isBuf I) g) j (ix2 r l) := by
  have hg : k.val / 8 = g.val := by omega
  have hr : (⟨k.val % 8, by omega⟩ : Fin 8) = r := Fin.ext (by show k.val % 8 = r.val; omega)
  have key : ∀ (n : ℕ) (r' : Fin 8), n = g.val → r' = r → wVal (qVal I n) (ut I eyeIdeal (isBuf I) n) (bs I (isBuf I) n) j (ix2 r' l)
      = wVal (qVal I g) (ut I eyeIdeal (isBuf I) g) (bs I (isBuf I) g) j (ix2 r l) := by rintro _ _ rfl rfl; rfl
  exact key _ _ hg hr

theorem mxBuf_apply (j : Fin 4) (g : Fin 32) (r : Fin 8) (l : Fin 128) (k : Fin 256) (hk : k.val = r.val + 8 * g.val) :
    mxBuf I (ix3 j k l) = mxUpTo (uVal I eyeIdeal (isBuf I) g) j 15 (ix2 r l) := by
  have hg : k.val / 8 = g.val := by omega
  have hr : (⟨k.val % 8, by omega⟩ : Fin 8) = r := Fin.ext (by show k.val % 8 = r.val; omega)
  have key : ∀ (n : ℕ) (r' : Fin 8), n = g.val → r' = r → mxUpTo (uVal I eyeIdeal (isBuf I) n) j 15 (ix2 r' l)
      = mxUpTo (uVal I eyeIdeal (isBuf I) g) j 15 (ix2 r l) := by rintro _ _ rfl rfl; rfl
  exact key _ _ hg hr

theorem uBuf_apply (g : Fin 32) (p : Fin 128) (c : Fin 512) (k : Fin 4096) (hk : k.val = 128 * g.val + p.val) :
    uBuf I (ix2 k c) = uVal I eyeIdeal (isBuf I) g (ix2 p c) := by
  have hg : k.val / 128 = g.val := by omega
  have hr : (⟨k.val % 128, by omega⟩ : Fin 128) = p := Fin.ext (by show k.val % 128 = p.val; omega)
  have key : ∀ (n : ℕ) (p' : Fin 128), n = g.val → p' = p → uVal I eyeIdeal (isBuf I) n (ix2 p' c)
      = uVal I eyeIdeal (isBuf I) g (ix2 p c) := by rintro _ _ rfl rfl; rfl
  exact key _ _ hg hr

end Buffers

/-- The largest magnitude of a group over its 128 rows. -/
theorem mx_tile (g : Fin 32) (c : Fin 512) (x : EReal) :
    mxAll (mxBuf I) (c.val / 128) 7 (ix2 g ⟨c.val % 128, by omega⟩) ≤ x ↔ ∀ p : Fin 128, absE (uVal I eyeIdeal (isBuf I) g (ix2 p c)) ≤ x := by
  have hj : c.val / 128 < 4 := by omega
  have hjj : (⟨c.val / 128 % 4, Nat.mod_lt _ (by decide)⟩ : Fin 4) = ⟨c.val / 128, hj⟩ := Fin.ext (by show c.val / 128 % 4 = c.val / 128; omega)
  rw [mxAll_le, hjj]
  have one : ∀ r : Fin 8, mxBuf I (ix3 ⟨c.val / 128, hj⟩ ⟨r.val + 8 * g.val, by omega⟩ ⟨c.val % 128, by omega⟩) ≤ x ↔ ∀ k : Fin 16, absE (uVal I eyeIdeal (isBuf I) g (ix2 ⟨8 * k.val + r.val, by omega⟩ c)) ≤ x := by
    intro r
    rw [mxBuf_apply I ⟨c.val / 128, hj⟩ g r ⟨c.val % 128, by omega⟩ _ rfl]
    exact mxUpTo_le (uVal I eyeIdeal (isBuf I) g) ⟨c.val / 128, hj⟩ r ⟨c.val % 128, by omega⟩ x c (by dsimp only; omega)
  simp only [one]
  constructor
  · intro h p
    have := h ⟨p.val % 8, by omega⟩ ⟨p.val / 8, by omega⟩
    have e : (⟨8 * (p.val / 8) + p.val % 8, by omega⟩ : Fin 128) = p := Fin.ext (by show 8 * (p.val / 8) + p.val % 8 = p.val; omega)
    rwa [e] at this
  · intro h r k
    exact h _

end Reads

section Tile

variable [Facts] {I : In Ideal} {q : Fin 32 → Fin 128 → Fin 512 → ℝ} {s : Fin 32 → Fin 512 → ℝ} {A : Fin 32 → Fin 128 → Fin 8 → ℝ} {h : Fin 8 → Fin 512 → ℝ}
variable (E : Entries I q s A h) (J : In Ideal)
include E

/-- The squared norm of a column. -/
theorem ss_tile (c : Fin 512) :
    ssVal (wBuf I) (sBuf I) (ddBuf I) (c.val / 128) (ix2 0 ⟨c.val % 128, by omega⟩)
      = ((∑ g : Fin 32, ∑ p : Fin 128, (q g p c * s g c + ∑ r : Fin 8, A g p r * h r c) ^ 2 : ℝ) : EReal) := by
  have hj : c.val / 128 < 4 := by omega
  have hjj : (⟨c.val / 128 % 4, Nat.mod_lt _ (by decide)⟩ : Fin 4) = ⟨c.val / 128, hj⟩ := Fin.ext (by show c.val / 128 % 4 = c.val / 128; omega)
  have hc : (⟨128 * (c.val / 128) + c.val % 128, by omega⟩ : Fin 512) = c := Fin.ext (by show 128 * (c.val / 128) + c.val % 128 = c.val; omega)
  have hs : ∀ g : Fin 32, ldPlane (sBuf I) (c.val / 128) (ix2 g ⟨c.val % 128, by omega⟩) = (s g c : EReal) := by
    intro g
    rw [ldPlane_apply, hjj]
    refine (scVal_apply I ⟨c.val / 128, hj⟩ g ⟨c.val % 128, by omega⟩).trans ?_
    rw [show (⟨128 * (⟨c.val / 128, hj⟩ : Fin 4).val + (⟨c.val % 128, by omega⟩ : Fin 128).val, by dsimp only; omega⟩ : Fin 512) = c from hc]
    exact E.scale g c
  have hd : ∀ r : Fin 8, ddBuf I (ix3 ⟨c.val / 128, hj⟩ r ⟨c.val % 128, by omega⟩) = ddVal I (ix2 r c) := fun r => congrArg (fun z => ddVal I (ix2 r z)) hc
  rw [ssVal_apply, hjj]
  simp only [hs, hd, wAll_apply, hjj, ddVal_entry E]
  have hw : ∀ (g : Fin 32) (r : Fin 8), wBuf I (ix3 ⟨c.val / 128, hj⟩ ⟨r.val + 8 * g.val, by omega⟩ ⟨c.val % 128, by omega⟩) = _ := fun g r =>
    (wBuf_apply I ⟨c.val / 128, hj⟩ g r ⟨c.val % 128, by omega⟩ _ rfl).trans (wVal_apply E g ⟨c.val / 128, hj⟩ r ⟨c.val % 128, by omega⟩ c (by dsimp only; omega))
  simp only [hw]
  simp only [← EReal.coe_mul, ← coe_sum, ← EReal.coe_add]
  refine congrArg _ ?_
  rw [Cert.Algebra.gram_norm A (fun r => h r c), ← Finset.sum_add_distrib]
  refine Finset.sum_congr rfl fun g _ => ?_
  rw [← Cert.Algebra.group_norm (fun p => q g p c) (s g c) (E.scale_ne g c) (A g) (fun r => h r c), Cert.Algebra.sum_halves (fun p => q g p c ^ 2), ← Finset.sum_add_distrib]

variable (C : EReal) (c : Fin 512)
  (hC : C = Ideal.div (J.m (ix3 0 0 c)) (Ideal.sqrt ((∑ g : Fin 32, ∑ p : Fin 128, (q g p c * s g c + ∑ r : Fin 8, A g p r * h r c) ^ 2 : ℝ) : EReal)))
  (g : Fin 32) (a : EReal)
  (ha : ∀ x, a ≤ x ↔ ∀ p : Fin 128, absE (((q g p c * s g c + ∑ r : Fin 8, A g p r * h r c : ℝ) : EReal) * C) ≤ x)

include hC in
theorem c_tile : cVal J (wBuf I) (sBuf I) (ddBuf I) (c.val / 128) (ix2 0 ⟨c.val % 128, by omega⟩) = C := by
  rw [cVal_apply, ss_tile E, hC]
  exact congrArg (fun z => Ideal.div (J.m (ix3 0 0 z)) _) (Fin.ext (by show 128 * (c.val / 128 % 4) + c.val % 128 = c.val; omega))

theorem s_tile (g : Fin 32) (c : Fin 512) : ldPlane (sBuf I) (c.val / 128) (ix2 g ⟨c.val % 128, by omega⟩) = (s g c : EReal) := by
  have hj : c.val / 128 < 4 := by omega
  have hjj : (⟨c.val / 128 % 4, Nat.mod_lt _ (by decide)⟩ : Fin 4) = ⟨c.val / 128, hj⟩ := Fin.ext (by show c.val / 128 % 4 = c.val / 128; omega)
  have hc : (⟨128 * (c.val / 128) + c.val % 128, by omega⟩ : Fin 512) = c := Fin.ext (by show 128 * (c.val / 128) + c.val % 128 = c.val; omega)
  rw [ldPlane_apply, hjj]
  refine (scVal_apply I ⟨c.val / 128, hj⟩ g ⟨c.val % 128, by omega⟩).trans ?_
  rw [show (⟨128 * (⟨c.val / 128, hj⟩ : Fin 4).val + (⟨c.val % 128, by omega⟩ : Fin 128).val, by dsimp only; omega⟩ : Fin 512) = c from hc]
  exact E.scale g c

/-- A merged weight is its group's scale times what the kernel keeps of it. -/
theorem u_scale (p : Fin 128) : uVal I eyeIdeal (isBuf I) g (ix2 p c) * (s g c : EReal) = ((q g p c * s g c + ∑ r : Fin 8, A g p r * h r c : ℝ) : EReal) := by
  rw [uVal_apply E, ← EReal.coe_mul, add_mul, Finset.sum_mul]
  refine congrArg _ (congrArg₂ (· + ·) rfl (Finset.sum_congr rfl fun r _ => ?_))
  have := E.scale_ne g c
  field_simp

include hC ha in
theorem amax_tile : amaxVal J (tileSt I) (c.val / 128) (ix2 g ⟨c.val % 128, by omega⟩) = a := by
  refine eq_of_forall_ge_iff fun x => ?_
  rw [amaxVal_apply]
  have e1 : cVal J (tileSt I).w (tileSt I).s (tileSt I).dd (c.val / 128) (ix2 0 ⟨c.val % 128, by omega⟩) = C := c_tile E J C c hC
  have e2 : ldPlane (tileSt I).s (c.val / 128) (ix2 g ⟨c.val % 128, by omega⟩) = (s g c : EReal) := s_tile E g c
  rw [e1, e2, mul_assoc, ha]
  refine (max_mul (mx_tile I g c) (mul_nonneg (absE_nonneg _) (absE_nonneg _)) x).trans (forall_congr' fun p => ?_)
  rw [← mul_assoc, ← absE_mul, ← absE_mul, u_scale E]

include hC ha in
theorem os_tile : osBuf I J (ix3 0 g c) = scaleOf a := by
  show oscVal J (tileSt I) (c.val / 128) (ix2 g ⟨c.val % 128, by omega⟩) = _
  rw [oscVal_apply, amax_tile E J C c hC g a ha]
  rfl

include hC ha in
theorem rho_tile : rowOf (rhoBuf I J) g (ix2 0 c) = Ideal.div ((s g c : EReal) * C) (scaleOf a) := by
  rw [rowOf_apply]
  show rhoVal J (tileSt I) (c.val / 128) (ix2 g ⟨c.val % 128, by omega⟩) = _
  rw [rhoVal_apply]
  have e1 : cVal J (tileSt I).w (tileSt I).s (tileSt I).dd (c.val / 128) (ix2 0 ⟨c.val % 128, by omega⟩) = C := c_tile E J C c hC
  have e2 : ldPlane (tileSt I).s (c.val / 128) (ix2 g ⟨c.val % 128, by omega⟩) = (s g c : EReal) := s_tile E g c
  have e3 : oscVal J (tileSt I) (c.val / 128) (ix2 g ⟨c.val % 128, by omega⟩) = scaleOf a := os_tile E J C c hC g a ha
  rw [e1, e2, e3]

include hC ha in
theorem code_tile (p : Fin 128) : codes4 (uBuf I) (rhoBuf I J) g (ix2 p c)
    = BitVec.setWidth 4 (BitVec.setWidth 8 (clipped (Ideal.div (((q g p c * s g c + ∑ r : Fin 8, A g p r * h r c : ℝ) : EReal) * C) (scaleOf a)))) := by
  rw [codes4_apply, rho_tile E J C c hC g a ha, uBuf_apply I g p c _ rfl, mul_quot _ _ _ _ (scaleOf_ne a), u_scale E]
  rfl

include hC ha in
theorem oc_tile (i : Fin 2048) (hi : i.val / 64 = g.val) : ocBuf I J (ix3 0 i c)
    = packed (clipped (Ideal.div (((q g ⟨2 * (i.val % 64), by omega⟩ c * s g c + ∑ r : Fin 8, A g ⟨2 * (i.val % 64), by omega⟩ r * h r c : ℝ) : EReal) * C) (scaleOf a)))
        (clipped (Ideal.div (((q g ⟨2 * (i.val % 64) + 1, by omega⟩ c * s g c + ∑ r : Fin 8, A g ⟨2 * (i.val % 64) + 1, by omega⟩ r * h r c : ℝ) : EReal) * C) (scaleOf a))) := by
  show pack4 (codes4 (uBuf I) (rhoBuf I J) (i.val / 64)) (ix2 ⟨i.val % 64, by omega⟩ c) = _
  have k0 : (⟨i.val % 64 * 2, by omega⟩ : Fin 128) = ⟨2 * (i.val % 64), by omega⟩ := Fin.ext (Nat.mul_comm _ _)
  have k1 : (⟨i.val % 64 * 2 + 1, by omega⟩ : Fin 128) = ⟨2 * (i.val % 64) + 1, by omega⟩ := Fin.ext (by show i.val % 64 * 2 + 1 = 2 * (i.val % 64) + 1; omega)
  rw [hi, pack4_apply]
  dsimp only
  rw [k0, k1, code_tile E J C c hC g a ha, code_tile E J C c hC g a ha, low_bits, low_bits]
  rfl

end Tile

end Cert.KernelIdeal.Value

end
-- ==== Proof.Value.Codes.lean ====
/- The codes a byte block holds. -/
module

public import proofs.«01_k».proof.Proof.Value.Read
public import proofs.«01_k».proof.Proof.Value.Algebra
public import Idealize.ShloMosaic.Lib.Pointwise

@[expose] public section

set_option maxRecDepth 16384

noncomputable section

namespace Cert.KernelIdeal.Value

open Idealize.ShloMosaic Idealize.ShloMosaic.TcCoe
open Cert.Algebra (nibLo nibHi nibLo_narrow nibHi_narrow)
open Facts₀ Facts
open Cert.Exec (iter)

variable [Facts] (I : In Ideal)

theorem nibbles_apply (v : IVec S64x512 32) (p : Fin 128) (c : Fin 512) :
    nibbles v (ix2 p c) = if p.val % 2 = 0 then IntOp.andi (v (ix2 ⟨p.val / 2, by omega⟩ c)) 15#32 else IntOp.shrsi ArithUnit.host (v (ix2 ⟨p.val / 2, by omega⟩ c)) 4#32 := by
  pointwise [nibbles]
  split <;> split
  · rfl
  · exfalso; omega
  · exfalso; omega
  · rfl

theorem bytes_apply (g : Fin 32) (p : Fin 64) (c : Fin 512) :
    bytes I g (ix2 p c) = BitVec.setWidth 32 (I.q (ix3 0 ⟨64 * g.val + p.val, by omega⟩ c)) := by
  pointwise [bytes]
  exact congrArg (fun z => BitVec.setWidth 32 (I.q (ix3 0 z c))) (Fin.ext (by show 64 * (g.val % 32) + p.val = 64 * g.val + p.val; omega))

theorem qVal_apply (g : Fin 32) (p : Fin 128) (c : Fin 512) (x : BitVec 8) (hx : I.q (ix3 0 ⟨64 * g.val + p.val / 2, by omega⟩ c) = x) :
    qVal I g (ix2 p c) = (((if p.val % 2 = 0 then (nibLo x).toInt else (nibHi x).toInt : ℤ) : ℝ) : EReal) := by
  have e : qVal I g (ix2 p c) = FloatOps.sitofp (F := Ideal) FTy.bf16
      (BitVec.setWidth 4
        (Scalar.select (IntOp.cmpi CmpIPredicate.sge (nibbles (bytes I g) (ix2 p c)) 8#32)
          (IntOp.subi (nibbles (bytes I g) (ix2 p c)) 16#32) (nibbles (bytes I g) (ix2 p c)))) := by
    pointwise [qVal]
  rw [e, nibbles_apply, bytes_apply I g ⟨p.val / 2, by omega⟩ c, hx]
  split
  · rw [← nibLo_narrow]; rfl
  · rw [← nibHi_narrow]; rfl

end Cert.KernelIdeal.Value

end
-- ==== Proof.Value.Own.lean ====
/- The buffers of the kernel's body at known contents, one at a time, and the counter by which a
   walk along the body knows how many steps of a repeated phase it has passed. -/
module

public import proofs.«01_k».proof.Proof.ExecAt
public import proofs.«01_k».proof.Proof.Value.Spec
public import Idealize.ShloMosaic.Lib.Pipeline.Frame

@[expose] public section

set_option maxRecDepth 16384

noncomputable section

namespace Cert.KernelIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exec

variable {F : FTy → Type} [FloatOps F] [Facts]

local notation "𝕄" => MT nD τ sig Unit (Elt F) ℕ (UR sig nD τ) ℕ

/-- The fifteen buffers of the body at the contents `I` and `σ` name. -/
def own (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32)
    (I : In F) (σ : St F) : sProp 𝕄 :=
  iprop(owns c.tc arg1 fullShare (I.q) ∗ owns c.tc arg2 fullShare (I.sc) ∗ owns c.tc arg3 fullShare (I.a) ∗ owns c.tc arg4 fullShare (I.b) ∗ owns c.tc arg5 fullShare (I.m) ∗ owns c.tc arg6 fullShare (σ.oc) ∗ owns c.tc arg7 fullShare (σ.os) ∗ owns c.tc arg8 fullShare (σ.eye) ∗ owns c.tc arg9 fullShare (σ.u) ∗ owns c.tc arg10 fullShare (σ.mx) ∗ owns c.tc arg11 fullShare (σ.w) ∗ owns c.tc arg12 fullShare (σ.dd) ∗ owns c.tc arg13 fullShare (σ.rho) ∗ owns c.tc arg14 fullShare (σ.s) ∗ owns c.tc arg15 fullShare (σ.is))

section Slots
variable (c : Dev nD) (arg1 : Memref sig .tc .vmem S1x2048x512 .i8) (arg2 : Memref sig .tc .vmem S1x32x512 .bf16) (arg3 : Memref sig .tc .vmem S1x512x128 .bf16) (arg4 : Memref sig .tc .vmem S1x8x512 .bf16) (arg5 : Memref sig .tc .vmem S1x1x512 .bf16) (arg6 : Memref sig .tc .vmem S1x2048x512 .i8) (arg7 : Memref sig .tc .vmem S1x32x512 .bf16) (arg8 : Memref sig .tc .vmem S128x128 .bf16) (arg9 : Memref sig .tc .vmem S4096x512 .f32) (arg10 : Memref sig .tc .vmem S4x256x128 .f32) (arg11 : Memref sig .tc .vmem S4x256x128 .f32) (arg12 : Memref sig .tc .vmem S4x8x128 .f32) (arg13 : Memref sig .tc .vmem S4x32x128 .f32) (arg14 : Memref sig .tc .vmem S4x32x128 .f32) (arg15 : Memref sig .tc .vmem S4x32x128 .f32) (I : In F)

instance read1 : ReadSlot (own c arg1 arg2 arg3 arg4 arg5 arg6 arg7 arg8 arg9 arg10 arg11 arg12 arg13 arg14 arg15 I) (c.tc : Thread nD τ) arg1 (fun _ => I.q) where
  take σ := by
    unfold own
    iintro ⟨H1, H2, H3, H4, H5, H6, H7, H8, H9, H10, H11, H12, H13, H14, H15⟩
    isplitl [H1]; · iexact H1
    iintro H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read2 : ReadSlot (own c arg1 arg2 arg3 arg4 arg5 arg6 arg7 arg8 arg9 arg10 arg11 arg12 arg13 arg14 arg15 I) (c.tc : Thread nD τ) arg2 (fun _ => I.sc) where
  take σ := by
    unfold own
    iintro ⟨H1, H2, H3, H4, H5, H6, H7, H8, H9, H10, H11, H12, H13, H14, H15⟩
    isplitl [H2]; · iexact H2
    iintro H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read3 : ReadSlot (own c arg1 arg2 arg3 arg4 arg5 arg6 arg7 arg8 arg9 arg10 arg11 arg12 arg13 arg14 arg15 I) (c.tc : Thread nD τ) arg3 (fun _ => I.a) where
  take σ := by
    unfold own
    iintro ⟨H1, H2, H3, H4, H5, H6, H7, H8, H9, H10, H11, H12, H13, H14, H15⟩
    isplitl [H3]; · iexact H3
    iintro H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read4 : ReadSlot (own c arg1 arg2 arg3 arg4 arg5 arg6 arg7 arg8 arg9 arg10 arg11 arg12 arg13 arg14 arg15 I) (c.tc : Thread nD τ) arg4 (fun _ => I.b) where
  take σ := by
    unfold own
    iintro ⟨H1, H2, H3, H4, H5, H6, H7, H8, H9, H10, H11, H12, H13, H14, H15⟩
    isplitl [H4]; · iexact H4
    iintro H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read5 : ReadSlot (own c arg1 arg2 arg3 arg4 arg5 arg6 arg7 arg8 arg9 arg10 arg11 arg12 arg13 arg14 arg15 I) (c.tc : Thread nD τ) arg5 (fun _ => I.m) where
  take σ := by
    unfold own
    iintro ⟨H1, H2, H3, H4, H5, H6, H7, H8, H9, H10, H11, H12, H13, H14, H15⟩
    isplitl [H5]; · iexact H5
    iintro H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance slot6 : Slot (own c arg1 arg2 arg3 arg4 arg5 arg6 arg7 arg8 arg9 arg10 arg11 arg12 arg13 arg14 arg15 I) (c.tc : Thread nD τ) arg6 St.oc (fun σ X => { σ with oc := X }) where
  take σ := by
    unfold own
    iintro ⟨H1, H2, H3, H4, H5, H6, H7, H8, H9, H10, H11, H12, H13, H14, H15⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read6 : ReadSlot (own c arg1 arg2 arg3 arg4 arg5 arg6 arg7 arg8 arg9 arg10 arg11 arg12 arg13 arg14 arg15 I) (c.tc : Thread nD τ) arg6 St.oc :=
  .of_slot (h := slot6 c arg1 arg2 arg3 arg4 arg5 arg6 arg7 arg8 arg9 arg10 arg11 arg12 arg13 arg14 arg15 I) fun _ => rfl

instance slot7 : Slot (own c arg1 arg2 arg3 arg4 arg5 arg6 arg7 arg8 arg9 arg10 arg11 arg12 arg13 arg14 arg15 I) (c.tc : Thread nD τ) arg7 St.os (fun σ X => { σ with os := X }) where
  take σ := by
    unfold own
    iintro ⟨H1, H2, H3, H4, H5, H6, H7, H8, H9, H10, H11, H12, H13, H14, H15⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read7 : ReadSlot (own c arg1 arg2 arg3 arg4 arg5 arg6 arg7 arg8 arg9 arg10 arg11 arg12 arg13 arg14 arg15 I) (c.tc : Thread nD τ) arg7 St.os :=
  .of_slot (h := slot7 c arg1 arg2 arg3 arg4 arg5 arg6 arg7 arg8 arg9 arg10 arg11 arg12 arg13 arg14 arg15 I) fun _ => rfl

instance slot8 : Slot (own c arg1 arg2 arg3 arg4 arg5 arg6 arg7 arg8 arg9 arg10 arg11 arg12 arg13 arg14 arg15 I) (c.tc : Thread nD τ) arg8 St.eye (fun σ X => { σ with eye := X }) where
  take σ := by
    unfold own
    iintro ⟨H1, H2, H3, H4, H5, H6, H7, H8, H9, H10, H11, H12, H13, H14, H15⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read8 : ReadSlot (own c arg1 arg2 arg3 arg4 arg5 arg6 arg7 arg8 arg9 arg10 arg11 arg12 arg13 arg14 arg15 I) (c.tc : Thread nD τ) arg8 St.eye :=
  .of_slot (h := slot8 c arg1 arg2 arg3 arg4 arg5 arg6 arg7 arg8 arg9 arg10 arg11 arg12 arg13 arg14 arg15 I) fun _ => rfl

instance slot9 : Slot (own c arg1 arg2 arg3 arg4 arg5 arg6 arg7 arg8 arg9 arg10 arg11 arg12 arg13 arg14 arg15 I) (c.tc : Thread nD τ) arg9 St.u (fun σ X => { σ with u := X }) where
  take σ := by
    unfold own
    iintro ⟨H1, H2, H3, H4, H5, H6, H7, H8, H9, H10, H11, H12, H13, H14, H15⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read9 : ReadSlot (own c arg1 arg2 arg3 arg4 arg5 arg6 arg7 arg8 arg9 arg10 arg11 arg12 arg13 arg14 arg15 I) (c.tc : Thread nD τ) arg9 St.u :=
  .of_slot (h := slot9 c arg1 arg2 arg3 arg4 arg5 arg6 arg7 arg8 arg9 arg10 arg11 arg12 arg13 arg14 arg15 I) fun _ => rfl

instance slot10 : Slot (own c arg1 arg2 arg3 arg4 arg5 arg6 arg7 arg8 arg9 arg10 arg11 arg12 arg13 arg14 arg15 I) (c.tc : Thread nD τ) arg10 St.mx (fun σ X => { σ with mx := X }) where
  take σ := by
    unfold own
    iintro ⟨H1, H2, H3, H4, H5, H6, H7, H8, H9, H10, H11, H12, H13, H14, H15⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read10 : ReadSlot (own c arg1 arg2 arg3 arg4 arg5 arg6 arg7 arg8 arg9 arg10 arg11 arg12 arg13 arg14 arg15 I) (c.tc : Thread nD τ) arg10 St.mx :=
  .of_slot (h := slot10 c arg1 arg2 arg3 arg4 arg5 arg6 arg7 arg8 arg9 arg10 arg11 arg12 arg13 arg14 arg15 I) fun _ => rfl

instance slot11 : Slot (own c arg1 arg2 arg3 arg4 arg5 arg6 arg7 arg8 arg9 arg10 arg11 arg12 arg13 arg14 arg15 I) (c.tc : Thread nD τ) arg11 St.w (fun σ X => { σ with w := X }) where
  take σ := by
    unfold own
    iintro ⟨H1, H2, H3, H4, H5, H6, H7, H8, H9, H10, H11, H12, H13, H14, H15⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read11 : ReadSlot (own c arg1 arg2 arg3 arg4 arg5 arg6 arg7 arg8 arg9 arg10 arg11 arg12 arg13 arg14 arg15 I) (c.tc : Thread nD τ) arg11 St.w :=
  .of_slot (h := slot11 c arg1 arg2 arg3 arg4 arg5 arg6 arg7 arg8 arg9 arg10 arg11 arg12 arg13 arg14 arg15 I) fun _ => rfl

instance slot12 : Slot (own c arg1 arg2 arg3 arg4 arg5 arg6 arg7 arg8 arg9 arg10 arg11 arg12 arg13 arg14 arg15 I) (c.tc : Thread nD τ) arg12 St.dd (fun σ X => { σ with dd := X }) where
  take σ := by
    unfold own
    iintro ⟨H1, H2, H3, H4, H5, H6, H7, H8, H9, H10, H11, H12, H13, H14, H15⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read12 : ReadSlot (own c arg1 arg2 arg3 arg4 arg5 arg6 arg7 arg8 arg9 arg10 arg11 arg12 arg13 arg14 arg15 I) (c.tc : Thread nD τ) arg12 St.dd :=
  .of_slot (h := slot12 c arg1 arg2 arg3 arg4 arg5 arg6 arg7 arg8 arg9 arg10 arg11 arg12 arg13 arg14 arg15 I) fun _ => rfl

instance slot13 : Slot (own c arg1 arg2 arg3 arg4 arg5 arg6 arg7 arg8 arg9 arg10 arg11 arg12 arg13 arg14 arg15 I) (c.tc : Thread nD τ) arg13 St.rho (fun σ X => { σ with rho := X }) where
  take σ := by
    unfold own
    iintro ⟨H1, H2, H3, H4, H5, H6, H7, H8, H9, H10, H11, H12, H13, H14, H15⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read13 : ReadSlot (own c arg1 arg2 arg3 arg4 arg5 arg6 arg7 arg8 arg9 arg10 arg11 arg12 arg13 arg14 arg15 I) (c.tc : Thread nD τ) arg13 St.rho :=
  .of_slot (h := slot13 c arg1 arg2 arg3 arg4 arg5 arg6 arg7 arg8 arg9 arg10 arg11 arg12 arg13 arg14 arg15 I) fun _ => rfl

instance slot14 : Slot (own c arg1 arg2 arg3 arg4 arg5 arg6 arg7 arg8 arg9 arg10 arg11 arg12 arg13 arg14 arg15 I) (c.tc : Thread nD τ) arg14 St.s (fun σ X => { σ with s := X }) where
  take σ := by
    unfold own
    iintro ⟨H1, H2, H3, H4, H5, H6, H7, H8, H9, H10, H11, H12, H13, H14, H15⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read14 : ReadSlot (own c arg1 arg2 arg3 arg4 arg5 arg6 arg7 arg8 arg9 arg10 arg11 arg12 arg13 arg14 arg15 I) (c.tc : Thread nD τ) arg14 St.s :=
  .of_slot (h := slot14 c arg1 arg2 arg3 arg4 arg5 arg6 arg7 arg8 arg9 arg10 arg11 arg12 arg13 arg14 arg15 I) fun _ => rfl

instance slot15 : Slot (own c arg1 arg2 arg3 arg4 arg5 arg6 arg7 arg8 arg9 arg10 arg11 arg12 arg13 arg14 arg15 I) (c.tc : Thread nD τ) arg15 St.is (fun σ X => { σ with is := X }) where
  take σ := by
    unfold own
    iintro ⟨H1, H2, H3, H4, H5, H6, H7, H8, H9, H10, H11, H12, H13, H14, H15⟩
    isplitl [H15]; · iexact H15
    iintro %X H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

instance read15 : ReadSlot (own c arg1 arg2 arg3 arg4 arg5 arg6 arg7 arg8 arg9 arg10 arg11 arg12 arg13 arg14 arg15 I) (c.tc : Thread nD τ) arg15 St.is :=
  .of_slot (h := slot15 c arg1 arg2 arg3 arg4 arg5 arg6 arg7 arg8 arg9 arg10 arg11 arg12 arg13 arg14 arg15 I) fun _ => rfl

end Slots

end Cert.KernelIdeal.Value

end
-- ==== Proof.Value.RunFirst.lean ====
/- The body at the first point. -/
module

public import proofs.«01_k».proof.Proof.Value.Own

@[expose] public section

set_option maxRecDepth 16384

noncomputable section

namespace Cert.KernelIdeal.Value

open Idealize.ShloMosaic Idealize.ShloMosaic.TcCoe
open Cert.Exec

variable {F : FTy → Type} [FloatOps F] [Facts]

set_option maxHeartbeats 0 in
/-- At the first point the first tile is merged. -/
theorem run_first (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : Scalar.cmpi .ne (Scalar.extui (Scalar.cmpi .eq (BitVec.ofNat 32 (i 0).val) 0#32) : BitVec 32) 0#32 = 1#1) (h2 : ¬k0_cond2 i = 1#1) (h3 : ¬k0_cond3 i = 1#1) (I : In F) (σ : St F) :
    RunsAt 0 (own c arg1 arg2 arg3 arg4 arg5 arg6 arg7 arg8 arg9 arg10 arg11 arg12 arg13 arg14 arg15 I) defs₀ Variants.none (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) σ (fun _ => own c arg1 arg2 arg3 arg4 arg5 arg6 arg7 arg8 arg9 arg10 arg11 arg12 arg13 arg14 arg15 I (firstSt I σ)) := by
  unfold cc0_dora
  apply RunsAt.dite_pos h1
  iterate 2 (
    conv => arg 7; whnf
    first
    | with_reducible refine RunsAt.load ?_
    | with_reducible refine RunsAt.store ?_)
  refine RunsAt.name (eyeStep σ) (by dsimp only [eyeStep] <;> rfl) fun st hs => ?_
  have hs0 := hs
  clear hs
  refine RunsAt.reset ?_
  have hs : st = iter (setupStep I) st 0 := rfl
  iterate 4 (
    iterate 5 (
      conv => arg 7; whnf
      first
      | with_reducible refine RunsAt.load ?_
      | with_reducible refine RunsAt.store ?_)
    refine RunsAt.step hs (by dsimp only [setupStep] <;> rfl) fun st hs => ?_)
  have hs1 := hs
  clear hs
  refine RunsAt.reset ?_
  iterate 73 (
    conv => arg 7; whnf
    first
    | with_reducible refine RunsAt.load ?_
    | with_reducible refine RunsAt.store ?_)
  refine RunsAt.name (gramStep I st) (by dsimp only [gramStep] <;> rfl) fun st hs => ?_
  have hs2 := hs
  clear hs
  refine RunsAt.reset ?_
  have hs : st = iter (mergeStep I) st 0 := rfl
  iterate 32 (
    iterate 25 (
      conv => arg 7; whnf
      first
      | with_reducible refine RunsAt.load ?_
      | with_reducible refine RunsAt.store ?_)
    refine RunsAt.step hs (by dsimp only [mergeStep] <;> rfl) fun st hs => ?_)
  conv => arg 7; whnf
  apply RunsAt.dite_neg h2
  apply RunsAt.dite_neg h3
  conv => arg 7; whnf
  subst_vars
  exact RunsAt.ret .rfl

end Cert.KernelIdeal.Value

end
-- ==== Proof.Value.RunMid.lean ====
/- The body at a point between the first and the last. -/
module

public import proofs.«01_k».proof.Proof.Value.Own

@[expose] public section

set_option maxRecDepth 16384

noncomputable section

namespace Cert.KernelIdeal.Value

open Idealize.ShloMosaic Idealize.ShloMosaic.TcCoe
open Cert.Exec

variable {F : FTy → Type} [FloatOps F] [Facts]

set_option maxHeartbeats 0 in
/-- At a point between, the tile before is finished and this one merged. -/
theorem run_mid (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : k0_cond2 i = 1#1) (h3 : ¬k0_cond3 i = 1#1) (I : In F) (σ : St F) :
    RunsAt 0 (own c arg1 arg2 arg3 arg4 arg5 arg6 arg7 arg8 arg9 arg10 arg11 arg12 arg13 arg14 arg15 I) defs₀ Variants.none (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) σ (fun _ => own c arg1 arg2 arg3 arg4 arg5 arg6 arg7 arg8 arg9 arg10 arg11 arg12 arg13 arg14 arg15 I (midSt I σ)) := by
  unfold cc0_dora
  apply RunsAt.dite_neg h1
  apply RunsAt.dite_pos h2
  refine RunsAt.name (σ) rfl fun st hs => ?_
  have hsa := hs
  clear hs
  refine RunsAt.reset ?_
  have hs : st = iter (finishStep I) st 0 := rfl
  iterate 4 (
    iterate 23 (
      conv => arg 7; whnf
      first
      | with_reducible refine RunsAt.load ?_
      | with_reducible refine RunsAt.store ?_)
    refine RunsAt.step hs (by dsimp only [finishStep] <;> rfl) fun st hs => ?_)
  have hs0 := hs
  clear hs
  refine RunsAt.reset ?_
  have hs : st = iter (setupStep I) st 0 := rfl
  iterate 4 (
    iterate 5 (
      conv => arg 7; whnf
      first
      | with_reducible refine RunsAt.load ?_
      | with_reducible refine RunsAt.store ?_)
    refine RunsAt.step hs (by dsimp only [setupStep] <;> rfl) fun st hs => ?_)
  have hs1 := hs
  clear hs
  refine RunsAt.reset ?_
  iterate 73 (
    conv => arg 7; whnf
    first
    | with_reducible refine RunsAt.load ?_
    | with_reducible refine RunsAt.store ?_)
  refine RunsAt.name (gramStep I st) (by dsimp only [gramStep] <;> rfl) fun st hs => ?_
  have hs2 := hs
  clear hs
  refine RunsAt.reset ?_
  have hs : st = iter (fun g σ => mergeStep I g (requantStep g σ)) st 0 := rfl
  iterate 32 (
    iterate 32 (
      conv => arg 7; whnf
      first
      | with_reducible refine RunsAt.load ?_
      | with_reducible refine RunsAt.store ?_)
    refine RunsAt.step hs (by dsimp only [mergeStep, requantStep] <;> rfl) fun st hs => ?_)
  conv => arg 7; whnf
  apply RunsAt.dite_neg h3
  conv => arg 7; whnf
  subst_vars
  exact RunsAt.ret .rfl

end Cert.KernelIdeal.Value

end
-- ==== Proof.Value.RunLast.lean ====
/- The body at the last point. -/
module

public import proofs.«01_k».proof.Proof.Value.Own

@[expose] public section

set_option maxRecDepth 16384

noncomputable section

namespace Cert.KernelIdeal.Value

open Idealize.ShloMosaic Idealize.ShloMosaic.TcCoe
open Cert.Exec

variable {F : FTy → Type} [FloatOps F] [Facts]

set_option maxHeartbeats 0 in
/-- At the last point the tile before is finished. -/
theorem run_last (c : Dev nD) (i : grid0.Coords) {arg1 : Memref sig .tc .vmem S1x2048x512 .i8} {arg2 : Memref sig .tc .vmem S1x32x512 .bf16} {arg3 : Memref sig .tc .vmem S1x512x128 .bf16} {arg4 : Memref sig .tc .vmem S1x8x512 .bf16} {arg5 : Memref sig .tc .vmem S1x1x512 .bf16} {arg6 : Memref sig .tc .vmem S1x2048x512 .i8} {arg7 : Memref sig .tc .vmem S1x32x512 .bf16} {arg8 : Memref sig .tc .vmem S128x128 .bf16} {arg9 : Memref sig .tc .vmem S4096x512 .f32} {arg10 : Memref sig .tc .vmem S4x256x128 .f32} {arg11 : Memref sig .tc .vmem S4x256x128 .f32} {arg12 : Memref sig .tc .vmem S4x8x128 .f32} {arg13 : Memref sig .tc .vmem S4x32x128 .f32} {arg14 : Memref sig .tc .vmem S4x32x128 .f32} {arg15 : Memref sig .tc .vmem S4x32x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (h1 : ¬Scalar.cmpi .ne (Scalar.extui (Scalar.cmpi .eq (BitVec.ofNat 32 (i 0).val) 0#32) : BitVec 32) 0#32 = 1#1) (h2 : ¬k0_cond2 i = 1#1) (h3 : k0_cond3 i = 1#1) (I : In F) (σ : St F) :
    RunsAt 0 (own c arg1 arg2 arg3 arg4 arg5 arg6 arg7 arg8 arg9 arg10 arg11 arg12 arg13 arg14 arg15 I) defs₀ Variants.none (c.tc : Thread nD τ) Set.univ
      (cc0_dora i arg1 harg1 arg2 harg2 arg3 harg3 arg4 harg4 arg5 harg5 arg6 harg6 arg7 harg7 arg8 harg8 arg9 harg9 arg10 harg10 arg11 harg11 arg12 harg12 arg13 harg13 arg14 harg14 arg15 harg15) σ (fun _ => own c arg1 arg2 arg3 arg4 arg5 arg6 arg7 arg8 arg9 arg10 arg11 arg12 arg13 arg14 arg15 I (lastSt I σ)) := by
  unfold cc0_dora
  apply RunsAt.dite_neg h1
  apply RunsAt.dite_neg h2
  apply RunsAt.dite_pos h3
  refine RunsAt.name (σ) rfl fun st hs => ?_
  have hsa := hs
  clear hs
  refine RunsAt.reset ?_
  have hs : st = iter (finishStep I) st 0 := rfl
  iterate 4 (
    iterate 23 (
      conv => arg 7; whnf
      first
      | with_reducible refine RunsAt.load ?_
      | with_reducible refine RunsAt.store ?_)
    refine RunsAt.step hs (by dsimp only [finishStep] <;> rfl) fun st hs => ?_)
  have hs0 := hs
  clear hs
  refine RunsAt.reset ?_
  have hs : st = iter (requantStep) st 0 := rfl
  iterate 32 (
    iterate 7 (
      conv => arg 7; whnf
      first
      | with_reducible refine RunsAt.load ?_
      | with_reducible refine RunsAt.store ?_)
    refine RunsAt.step hs (by dsimp only [requantStep] <;> rfl) fun st hs => ?_)
  conv => arg 7; whnf
  subst_vars
  exact RunsAt.ret .rfl

end Cert.KernelIdeal.Value

end
-- ==== Proof.Value.Launch.lean ====
/- The launch with its values: at every grid point the body finds the tile's inputs and, from the second point on, the
   scratch of the tile before merged; it leaves the results of the tile before. -/
module

public import proofs.«01_k».proof.Proof.Gen.KernelIdeal.Frame
public import proofs.«01_k».proof.Proof.Value.State
public import proofs.«01_k».proof.Proof.Value.RunFirst
public import proofs.«01_k».proof.Proof.Value.RunMid
public import proofs.«01_k».proof.Proof.Value.RunLast
public import proofs.«01_k».proof.Proof.KernelIdealFrame.Frame

@[expose] public section

set_option maxRecDepth 16384

noncomputable section

namespace Cert.KernelIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Exec
open Body (𝒱₀)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body finds in its input windows at a point. -/
def inAt (c : Dev nD) (t : Fin cfg0.N) : In F where
  q := Gen.iblk m c 0 t
  sc := Gen.iblk m c 1 t
  a := Gen.iblk m c 2 t
  b := Gen.iblk m c 3 t
  m := Gen.iblk m c 4 t

/-- The same at a number. -/
def inNat (c : Dev nD) (n : ℕ) : In F := inAt m c ⟨n % 61, Nat.mod_lt n (by decide : 0 < 61)⟩

theorem inNat_val (c : Dev nD) (t : Fin cfg0.N) : inNat m c t.val = inAt m c t :=
  congrArg (inAt m c) (Fin.ext (Nat.mod_eq_of_lt t.isLt))

/-- The scratch buffers at a state. -/
def scratch (c : Dev nD) (σ : St F) : sProp 𝕄 := iprop(owns (c.tc : Thread nD τ) (Memref.whole cc0_scratch0) fullShare σ.eye ∗ owns (c.tc : Thread nD τ) (Memref.whole cc0_scratch1) fullShare σ.u ∗ owns (c.tc : Thread nD τ) (Memref.whole cc0_scratch2) fullShare σ.mx ∗ owns (c.tc : Thread nD τ) (Memref.whole cc0_scratch3) fullShare σ.w ∗ owns (c.tc : Thread nD τ) (Memref.whole cc0_scratch4) fullShare σ.dd ∗ owns (c.tc : Thread nD τ) (Memref.whole cc0_scratch5) fullShare σ.rho ∗ owns (c.tc : Thread nD τ) (Memref.whole cc0_scratch6) fullShare σ.s ∗ owns (c.tc : Thread nD τ) (Memref.whole cc0_scratch7) fullShare σ.is)

def dats (_ : Fin 1) (c : Dev nD) : Dat τ (Elt F) Unit ℕ (UR sig nD τ) ℕ cfg0 c where
  A w := Gen.V m c (Pipeline.arrRef spec0 w)
  after := fun
    | 0 => fun t => Gen.iblk m c 0 t
    | 1 => fun t => Gen.iblk m c 1 t
    | 2 => fun t => Gen.iblk m c 2 t
    | 3 => fun t => Gen.iblk m c 3 t
    | 4 => fun t => Gen.iblk m c 4 t
    | 5 => fun t => ocBuf (inNat m c (t.val - 1)) (inNat m c t.val)
    | 6 => fun t => osBuf (inNat m c (t.val - 1)) (inNat m c t.val)
    | ⟨_ + 7, h⟩ => absurd h (Nat.not_lt.2 (Nat.le_add_left _ _))
  Φ t := iprop((∃ σ : St F, scratch c σ ∗ ⌜1 ≤ t.val → t.val ≤ 60 → Merged (inNat m c (t.val - 1)) σ⌝) ∗ ∃ r, prngReg c r)
  q _ := fullShare
  owed _ := 0

theorem A_eq (c : Dev nD) (w : Fin cfg0.W) : (dats m 0 c).A w = Gen.V m c (Pipeline.arrRef spec0 w) := by dsimp only [dats]

/-- Which of the three branches a grid point takes, by its number. -/
theorem conds : ∀ t : Fin grid0.N,
    (t.val = 0 ∧ (Scalar.cmpi .ne (Scalar.extui (Scalar.cmpi .eq (BitVec.ofNat 32 (grid0.coords t 0).val) 0#32) : BitVec 32) 0#32 = 1#1)
        ∧ ¬k0_cond2 (grid0.coords t) = 1#1 ∧ ¬k0_cond3 (grid0.coords t) = 1#1)
    ∨ (1 ≤ t.val ∧ t.val < 60 ∧ (¬Scalar.cmpi .ne (Scalar.extui (Scalar.cmpi .eq (BitVec.ofNat 32 (grid0.coords t 0).val) 0#32) : BitVec 32) 0#32 = 1#1)
        ∧ k0_cond2 (grid0.coords t) = 1#1 ∧ ¬k0_cond3 (grid0.coords t) = 1#1)
    ∨ (t.val = 60 ∧ (¬Scalar.cmpi .ne (Scalar.extui (Scalar.cmpi .eq (BitVec.ofNat 32 (grid0.coords t 0).val) 0#32) : BitVec 32) 0#32 = 1#1)
        ∧ ¬k0_cond2 (grid0.coords t) = 1#1 ∧ k0_cond3 (grid0.coords t) = 1#1) := by
  decide +kernel

theorem idle_iff : ∀ t : Fin grid0.N, (t.val = 0 → cfg0.idle 5 (grid0.coords t) = true ∧ cfg0.idle 6 (grid0.coords t) = true)
    ∧ (1 ≤ t.val → cfg0.idle 5 (grid0.coords t) = false ∧ cfg0.idle 6 (grid0.coords t) = false) := by
  decide +kernel

theorem flush_zero : ∀ t : Fin cfg0.N, t.val = 0 → (cfg0.win 5).flush t = false ∧ (cfg0.win 6).flush t = false := by
  decide +kernel

/-- The buffers of the body at a point. -/
abbrev ownAt (c : Dev nD) (t : Fin cfg0.N) (σ : St F) : sProp 𝕄 := own (F := F) c (Gen.st0_0 t) (Gen.st0_1 t) (Gen.st0_2 t) (Gen.st0_3 t) (Gen.st0_4 t) (Gen.st0_5 t) (Gen.st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (inAt m c t) σ

theorem run_at_first (c : Dev nD) (t : Fin cfg0.N) (h : t.val = 0) (σ : St F) :
    ownAt m c t σ ⊢ wp frame (wpE (defs₀ (F := F)) 𝒱₀ (c.tc : Thread nD τ) none) Set.univ (Gen.bodyAt0 t) fun _ => ownAt m c t (firstSt (inAt m c t) σ) := by
  rcases conds t with ⟨h0, h1, h2, h3⟩ | ⟨h0, h0', h1, h2, h3⟩ | ⟨h0, h1, h2, h3⟩
  · exact run_first c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3 (inAt m c t) σ
  · omega
  · omega

theorem run_at_mid (c : Dev nD) (t : Fin cfg0.N) (h : 1 ≤ t.val) (h' : t.val < 60) (σ : St F) :
    ownAt m c t σ ⊢ wp frame (wpE (defs₀ (F := F)) 𝒱₀ (c.tc : Thread nD τ) none) Set.univ (Gen.bodyAt0 t) fun _ => ownAt m c t (midSt (inAt m c t) σ) := by
  rcases conds t with ⟨h0, h1, h2, h3⟩ | ⟨h0, h0', h1, h2, h3⟩ | ⟨h0, h1, h2, h3⟩
  · omega
  · exact run_mid c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3 (inAt m c t) σ
  · omega

theorem run_at_last (c : Dev nD) (t : Fin cfg0.N) (h : t.val = 60) (σ : St F) :
    ownAt m c t σ ⊢ wp frame (wpE (defs₀ (F := F)) 𝒱₀ (c.tc : Thread nD τ) none) Set.univ (Gen.bodyAt0 t) fun _ => ownAt m c t (lastSt (inAt m c t) σ) := by
  rcases conds t with ⟨h0, h1, h2, h3⟩ | ⟨h0, h0', h1, h2, h3⟩ | ⟨h0, h1, h2, h3⟩
  · omega
  · omega
  · exact run_last c (grid0.coords t) (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Gen.hstage0_5 ((cfg0.slots t 5).cast Gen.nbuf0_5)) (Gen.hstage0_6 ((cfg0.slots t 6).cast Gen.nbuf0_6)) (Memref.isWhole_whole _) (Memref.isWhole_whole _) (Memref.isWhole_whole _) (Memref.isWhole_whole _) (Memref.isWhole_whole _) (Memref.isWhole_whole _) (Memref.isWhole_whole _) (Memref.isWhole_whole _) h1 h2 h3 (inAt m c t) σ

/-- What the body leaves, at any point: the results of the tile before unless it is the first, and the scratch merged
    unless it is the last. -/
theorem run_at (c : Dev nD) (t : Fin cfg0.N) (σ : St F) (hσ : 1 ≤ t.val → t.val ≤ 60 → Merged (inNat m c (t.val - 1)) σ) :
    ∃ σ' : St F, (ownAt m c t σ ⊢ wp frame (wpE (defs₀ (F := F)) 𝒱₀ (c.tc : Thread nD τ) none) Set.univ (Gen.bodyAt0 t) fun _ => ownAt m c t σ')
      ∧ (t.val + 1 ≤ 60 → Merged (inNat m c t.val) σ')
      ∧ (t.val = 0 → σ'.oc = σ.oc ∧ σ'.os = σ.os)
      ∧ (1 ≤ t.val → σ'.oc = ocBuf (inNat m c (t.val - 1)) (inNat m c t.val) ∧ σ'.os = osBuf (inNat m c (t.val - 1)) (inNat m c t.val)) := by
  have hlt : t.val < 61 := t.isLt
  rw [inNat_val]
  rcases Nat.eq_zero_or_pos t.val with h | h
  · exact ⟨_, run_at_first m c t h σ, fun _ => merged_first _ _, fun _ => ⟨first_oc _ _, first_os _ _⟩, fun h' => by omega⟩
  · rcases Nat.lt_or_ge t.val 60 with h' | h'
    · have hM := hσ h (by omega)
      exact ⟨_, run_at_mid m c t h h' σ, fun _ => merged_mid _ _ hM.eye, fun h0 => by omega, fun _ => ⟨mid_oc _ hM, mid_os _ hM⟩⟩
    · have hM := hσ h (by omega)
      exact ⟨_, run_at_last m c t (by omega) σ, fun h1 => by omega, fun h0 => by omega, fun _ => ⟨last_oc _ hM, last_os _ hM⟩⟩

/-- The body at a point, from the scratch and the windows to what it leaves in them. -/
theorem step (c : Dev nD) (t : Fin cfg0.N) (σ₀ : St F) (hσ : 1 ≤ t.val → t.val ≤ 60 → Merged (inNat m c (t.val - 1)) σ₀)
    (X5 : Vec F S1x2048x512 .i8) (X6 : Vec F S1x32x512 .bf16) (R : sProp 𝕄) :
    iprop((owns (c.tc : Thread nD τ) (Gen.st0_0 t) fullShare (inAt m c t).q ∗ owns (c.tc : Thread nD τ) (Gen.st0_1 t) fullShare (inAt m c t).sc
        ∗ owns (c.tc : Thread nD τ) (Gen.st0_2 t) fullShare (inAt m c t).a ∗ owns (c.tc : Thread nD τ) (Gen.st0_3 t) fullShare (inAt m c t).b
        ∗ owns (c.tc : Thread nD τ) (Gen.st0_4 t) fullShare (inAt m c t).m ∗ owns (c.tc : Thread nD τ) (Gen.st0_5 t) fullShare X5
        ∗ owns (c.tc : Thread nD τ) (Gen.st0_6 t) fullShare X6) ∗ scratch c σ₀ ∗ R)
      ⊢ wp frame (wpE (defs₀ (F := F)) 𝒱₀ (c.tc : Thread nD τ) none) Set.univ (Gen.bodyAt0 t) fun _ =>
        iprop(∃ (σ' : St F) (X5' : Vec F S1x2048x512 .i8) (X6' : Vec F S1x32x512 .bf16), ⌜(t.val + 1 ≤ 60 → Merged (inNat m c t.val) σ')
            ∧ (t.val = 0 → X5' = X5 ∧ X6' = X6)
            ∧ (1 ≤ t.val → X5' = ocBuf (inNat m c (t.val - 1)) (inNat m c t.val) ∧ X6' = osBuf (inNat m c (t.val - 1)) (inNat m c t.val))⌝
          ∗ (owns (c.tc : Thread nD τ) (Gen.st0_0 t) fullShare (inAt m c t).q ∗ owns (c.tc : Thread nD τ) (Gen.st0_1 t) fullShare (inAt m c t).sc
            ∗ owns (c.tc : Thread nD τ) (Gen.st0_2 t) fullShare (inAt m c t).a ∗ owns (c.tc : Thread nD τ) (Gen.st0_3 t) fullShare (inAt m c t).b
            ∗ owns (c.tc : Thread nD τ) (Gen.st0_4 t) fullShare (inAt m c t).m ∗ owns (c.tc : Thread nD τ) (Gen.st0_5 t) fullShare X5'
            ∗ owns (c.tc : Thread nD τ) (Gen.st0_6 t) fullShare X6') ∗ scratch c σ' ∗ R) := by
  obtain ⟨σ', hrun, hM, hz, hp⟩ := run_at m c t { σ₀ with oc := X5, os := X6 } (fun h h' =>
    ⟨(hσ h h').eye, (hσ h h').u, (hσ h h').mx, (hσ h h').w, (hσ h h').dd, (hσ h h').s⟩)
  refine .trans (Q := iprop(ownAt m c t { σ₀ with oc := X5, os := X6 } ∗ R)) ?_ ((sep_mono hrun .rfl).trans ((wp_frame_r _ _ _).trans (wp_mono _ _ _ fun _ => ?_)))
  · unfold ownAt own scratch
    iintro ⟨⟨W0, W1, W2, W3, W4, W5, W6⟩, ⟨S0, S1, S2, S3, S4, S5, S6, S7⟩, HR⟩
    isplitl [W0 W1 W2 W3 W4 W5 W6 S0 S1 S2 S3 S4 S5 S6 S7]
    ·
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact HR
  · unfold ownAt own scratch
    iintro ⟨⟨W0, W1, W2, W3, W4, W5, W6, S0, S1, S2, S3, S4, S5, S6, S7⟩, HR⟩
    iexists σ', σ'.oc, σ'.os
    isplitr
    · ipureintro; exact ⟨hM, hz, hp⟩
    isplitl [W0 W1 W2 W3 W4 W5 W6]
    ·
      isplitl [W0]; · iexact W0
      isplitl [W1]; · iexact W1
      isplitl [W2]; · iexact W2
      isplitl [W3]; · iexact W3
      isplitl [W4]; · iexact W4
      isplitl [W5]; · iexact W5
      iexact W6
    isplitl [S0 S1 S2 S3 S4 S5 S6 S7]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact HR

theorem body_obligation (c : Dev nD) : BodyObligation (dats (F := F) m 0 c) (defs₀ (F := F)) 𝒱₀ () Set.univ := fun t => by
  rw [Gen.bigSep_W0, Gen.bigSep_W0, Body.defs₀_row]
  rw [show (dats m 0 c).Φ t.castSucc = iprop((∃ σ : St F, scratch c σ ∗ ⌜1 ≤ t.val → t.val ≤ 60 → Merged (inNat m c (t.val - 1)) σ⌝) ∗ ∃ r, prngReg c r) from rfl,
    show (dats m 0 c).Φ t.succ = iprop((∃ σ : St F, scratch c σ ∗ ⌜1 ≤ t.val + 1 → t.val + 1 ≤ 60 → Merged (inNat m c t.val) σ⌝) ∗ ∃ r, prngReg c r) from rfl,
    show (dats m 0 c).owesAt () t.succ = (dats m 0 c).owesAt () t.castSucc from rfl]
  dsimp only
  simp only [Gen.before0_0_of m (dats m 0 c) (A_eq m c 0) (fun _ => rfl), Gen.before0_1_of m (dats m 0 c) (A_eq m c 1) (fun _ => rfl),
    Gen.before0_2_of m (dats m 0 c) (A_eq m c 2) (fun _ => rfl), Gen.before0_3_of m (dats m 0 c) (A_eq m c 3) (fun _ => rfl),
    Gen.before0_4_of m (dats m 0 c) (A_eq m c 4) (fun _ => rfl)]
  iintro ⟨⟨⟨%σ₀, HS, %hσ⟩, HR⟩, HO, ⟨%d0, W0⟩, ⟨%d1, W1⟩, ⟨%d2, W2⟩, ⟨%d3, W3⟩, ⟨%d4, W4⟩, ⟨%d5, W5⟩, ⟨%d6, W6⟩⟩
  rcases Nat.eq_zero_or_pos t.val with ht | ht
  · rw [show idle0 5 (grid0.coords t) = true from ((idle_iff t).1 ht).1, (flush_zero t ht).1, (flush_zero t ht).2]
    dsimp only
    iapply ((step m c t σ₀ hσ ((dats m 0 c).before 5 t d5) ((dats m 0 c).before 6 t d6) iprop((∃ r, prngReg c r) ∗ (dats (F := F) m 0 c).owesAt () t.castSucc)).trans
      (wp_mono _ _ _ fun _ => (by
        iintro ⟨%σ', %X5, %X6, %h, ⟨W0, W1, W2, W3, W4, W5, W6⟩, HS, HR, HO⟩
        obtain ⟨hM, hz, -⟩ := h
        obtain ⟨rfl, rfl⟩ := hz ht
        isplitl [HS HR]
        · isplitl [HS]
          · iexists σ'
            isplitl [HS]; · iexact HS
            ipureintro; exact fun _ => hM
          · iexact HR
        isplitl [HO]; · iexact HO
        isplitl [W0]; · iexact W0
        isplitl [W1]; · iexact W1
        isplitl [W2]; · iexact W2
        isplitl [W3]; · iexact W3
        isplitl [W4]; · iexact W4
        isplitl [W5]
        · iexists d5; iexact W5
        · iexists d6; iexact W6)))
    isplitl [W0 W1 W2 W3 W4 W5 W6]
    ·
      isplitl [W0]; · iexact W0
      isplitl [W1]; · iexact W1
      isplitl [W2]; · iexact W2
      isplitl [W3]; · iexact W3
      isplitl [W4]; · iexact W4
      isplitl [W5]; · iexact W5
      iexact W6
    isplitl [HS]; · iexact HS
    isplitl [HR]; · iexact HR
    iexact HO
  · rw [show idle0 5 (grid0.coords t) = false from ((idle_iff t).2 ht).1]
    dsimp only
    iapply ((step m c t σ₀ hσ ((dats m 0 c).before 5 t d5) ((dats m 0 c).before 6 t d6) iprop((∃ r, prngReg c r) ∗ (dats (F := F) m 0 c).owesAt () t.castSucc)).trans
      (wp_mono _ _ _ fun _ => (by
        iintro ⟨%σ', %X5, %X6, %h, ⟨W0, W1, W2, W3, W4, W5, W6⟩, HS, HR, HO⟩
        obtain ⟨hM, -, hp⟩ := h
        obtain ⟨rfl, rfl⟩ := hp ht
        isplitl [HS HR]
        · isplitl [HS]
          · iexists σ'
            isplitl [HS]; · iexact HS
            ipureintro; exact fun _ => hM
          · iexact HR
        isplitl [HO]; · iexact HO
        isplitl [W0]; · iexact W0
        isplitl [W1]; · iexact W1
        isplitl [W2]; · iexact W2
        isplitl [W3]; · iexact W3
        isplitl [W4]; · iexact W4
        isplitl [W5]; · iexact W5
        iexact W6)))
    isplitl [W0 W1 W2 W3 W4 W5 W6]
    ·
      isplitl [W0]; · iexact W0
      isplitl [W1]; · iexact W1
      isplitl [W2]; · iexact W2
      isplitl [W3]; · iexact W3
      isplitl [W4]; · iexact W4
      isplitl [W5]; · iexact W5
      iexact W6
    isplitl [HS]; · iexact HS
    isplitl [HR]; · iexact HR
    iexact HO

theorem Phi_in (c : Dev nD) : Pipeline.ΦA spec0 c ⊢ (dats (F := F) m 0 c).Φ 0 := by
  rw [show (dats m 0 c).Φ 0 = iprop((∃ σ : St F, scratch c σ ∗ ⌜1 ≤ 0 → 0 ≤ 60 → Merged (inNat m c (0 - 1)) σ⌝) ∗ ∃ r, prngReg c r) from rfl]
  unfold Pipeline.ΦA scratch
  rw [Gen.scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, HR⟩
  isplitr [HR]
  · iexists (⟨fun _ => (0 : BitVec 8), fun _ => Scalar.ofBits .bf16 0, f0, f1, f2, f3, f4, f5, f6, f7⟩ : St F)
    isplitl
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    ipureintro; intro h; omega
  · iexact HR

theorem Phi_out (c : Dev nD) : (dats (F := F) m 0 c).Φ (Fin.last cfg0.N) ⊢ Pipeline.ΦA spec0 c := by
  rw [show (dats m 0 c).Φ (Fin.last cfg0.N) = iprop((∃ σ : St F, scratch c σ ∗ ⌜1 ≤ (Fin.last cfg0.N).val → (Fin.last cfg0.N).val ≤ 60 → Merged (inNat m c ((Fin.last cfg0.N).val - 1)) σ⌝) ∗ ∃ r, prngReg c r) from rfl]
  unfold Pipeline.ΦA scratch
  rw [Gen.scopedRest0_eq]
  simp only [owns_whole]
  iintro ⟨⟨%σ, ⟨S0, S1, S2, S3, S4, S5, S6, S7⟩, -⟩, HR⟩
  isplitr [HR]
  · isplitl [S0]; · iexists σ.eye; iexact S0
    isplitl [S1]; · iexists σ.u; iexact S1
    isplitl [S2]; · iexists σ.mx; iexact S2
    isplitl [S3]; · iexists σ.w; iexact S3
    isplitl [S4]; · iexists σ.dd; iexact S4
    isplitl [S5]; · iexists σ.rho; iexact S5
    isplitl [S6]; · iexists σ.s; iexact S6
    iexists σ.is; iexact S7
  · iexact HR

set_option backward.isDefEq.respectTransparency.types false in
/-- The run: every final state has each window's array at what the write-backs leave in it and every other buffer as the
    region found it, and every semaphore counter at zero. -/
theorem run_arrays :
    θ_run (defs (F := F)) (onTc (τ := τ) (main (F := F))) ⟨m, fun _ => 0, ρ⟩
      (fun r => Pipeline.FramePost cfgs (dats (F := F) m) (0 : Fin 1) (Gen.V m) r ∧ r.2.sem = fun _ => 0) :=
  Pipeline.θ_run_frame_track
    (Q' := fun r => Pipeline.FramePost cfgs (dats (F := F) m) (0 : Fin 1) (Gen.V m) r ∧ r.2.sem = fun _ => 0)
    cfgs (dats m) (0 : Fin 1) Gen.launch0 defs₀ 𝒱₀ m ρ main
    (hbody := fun c => (body_obligation m c).loose) (hshare := fun c => (dats (F := F) m 0 c).share_full fun _ => rfl)
    (howed := fun _ _ => rfl) (V := Gen.V m) (hmain := Gen.hmain m 𝒱₀) (hA := A_eq m) (hin := Phi_in m) (hout := Phi_out m)
    (hQ' := fun _ h => h)

end Cert.KernelIdeal.Value

end
-- ==== Proof.Value.Windows.lean ====
/- What the launch's windows read of the arguments, and its output arrays entry by entry. -/
module

public import proofs.«01_k».proof.Proof.Value.Launch
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe
open Idealize.SL Idealize.SL.RA
open Idealize.ShloMosaic.Pipeline (Dat Cfg Window)

variable {F : FTy → Type} [FloatOps F] (m : (ℓ : Loc nD τ sig) → Buf (Elt F) ℓ) (c : Dev nD)

theorem index_q : ∀ t : Fin cfg0.N, win0_0.index t = ![(min t.val 59) / 2, 0, (min t.val 59) % 2] := (by decide +kernel : ∀ t : Fin grid0.N, _)
theorem index_sc : ∀ t : Fin cfg0.N, win0_1.index t = ![(min t.val 59) / 2, 0, (min t.val 59) % 2] := (by decide +kernel : ∀ t : Fin grid0.N, _)
theorem index_a : ∀ t : Fin cfg0.N, win0_2.index t = ![(min t.val 59) / 2, 0, 0] := (by decide +kernel : ∀ t : Fin grid0.N, _)
theorem index_b : ∀ t : Fin cfg0.N, win0_3.index t = ![(min t.val 59) / 2, 0, (min t.val 59) % 2] := (by decide +kernel : ∀ t : Fin grid0.N, _)
theorem index_m : ∀ t : Fin cfg0.N, win0_4.index t = ![(t.val - 1) / 2, 0, (t.val - 1) % 2] := (by decide +kernel : ∀ t : Fin grid0.N, _)
theorem index_oc : ∀ t : Fin cfg0.N, win0_5.index t = ![(t.val - 1) / 2, 0, (t.val - 1) % 2] := (by decide +kernel : ∀ t : Fin grid0.N, _)
theorem index_os : ∀ t : Fin cfg0.N, win0_6.index t = ![(t.val - 1) / 2, 0, (t.val - 1) % 2] := (by decide +kernel : ∀ t : Fin grid0.N, _)

theorem emb_q (t : Fin cfg0.N) (y : S1x2048x512.Idx) : (((win0_0.blk t).view.emb y 0).val = min t.val 59 / 2 + (y 0).val) ∧ (((win0_0.blk t).view.emb y 1).val = (y 1).val) ∧ (((win0_0.blk t).view.emb y 2).val = min t.val 59 % 2 * 512 + (y 2).val) := by
  refine ⟨?_, ?_, ?_⟩ <;> blk_simp [index_q] <;> simp

theorem emb_sc (t : Fin cfg0.N) (y : S1x32x512.Idx) : (((win0_1.blk t).view.emb y 0).val = min t.val 59 / 2 + (y 0).val) ∧ (((win0_1.blk t).view.emb y 1).val = (y 1).val) ∧ (((win0_1.blk t).view.emb y 2).val = min t.val 59 % 2 * 512 + (y 2).val) := by
  refine ⟨?_, ?_, ?_⟩ <;> blk_simp [index_sc] <;> simp

theorem emb_a (t : Fin cfg0.N) (y : S1x512x128.Idx) : (((win0_2.blk t).view.emb y 0).val = min t.val 59 / 2 + (y 0).val) ∧ (((win0_2.blk t).view.emb y 1).val = (y 1).val) ∧ (((win0_2.blk t).view.emb y 2).val = (y 2).val) := by
  refine ⟨?_, ?_, ?_⟩ <;> blk_simp [index_a] <;> simp

theorem emb_b (t : Fin cfg0.N) (y : S1x8x512.Idx) : (((win0_3.blk t).view.emb y 0).val = min t.val 59 / 2 + (y 0).val) ∧ (((win0_3.blk t).view.emb y 1).val = (y 1).val) ∧ (((win0_3.blk t).view.emb y 2).val = min t.val 59 % 2 * 512 + (y 2).val) := by
  refine ⟨?_, ?_, ?_⟩ <;> blk_simp [index_b] <;> simp

theorem emb_m (t : Fin cfg0.N) (y : S1x1x512.Idx) : (((win0_4.blk t).view.emb y 0).val = (t.val - 1) / 2 + (y 0).val) ∧ (((win0_4.blk t).view.emb y 1).val = (y 1).val) ∧ (((win0_4.blk t).view.emb y 2).val = (t.val - 1) % 2 * 512 + (y 2).val) := by
  refine ⟨?_, ?_, ?_⟩ <;> blk_simp [index_m] <;> simp

theorem q_apply (t : Fin cfg0.N) (r : Fin 2048) (x : Fin 512) (i : S30x2048x1024.Idx) (h0 : (i 0).val = min t.val 59 / 2) (h1 : (i 1).val = r.val) (h2 : (i 2).val = min t.val 59 % 2 * 512 + x.val) :
    (inAt m c t).q (ix3 0 r x) = m ((c.tc : Thread nD τ).loc main_arg0) i := by
  show Gen.iblk m c 0 t (ix3 0 r x) = _
  blk_simp [Gen.iblk]
  rw [Gen.V_main_arg0]
  apply congrArg (m ((c.tc : Thread nD τ).loc main_arg0))
  obtain ⟨e0, e1, e2⟩ := emb_q t (ix3 0 r x)
  funext a; apply Fin.ext
  fin_cases a
  · exact e0.trans h0.symm
  · exact e1.trans h1.symm
  · exact e2.trans h2.symm

theorem sc_apply (t : Fin cfg0.N) (r : Fin 32) (x : Fin 512) (i : S30x32x1024.Idx) (h0 : (i 0).val = min t.val 59 / 2) (h1 : (i 1).val = r.val) (h2 : (i 2).val = min t.val 59 % 2 * 512 + x.val) :
    (inAt m c t).sc (ix3 0 r x) = m ((c.tc : Thread nD τ).loc main_arg1) i := by
  show Gen.iblk m c 1 t (ix3 0 r x) = _
  blk_simp [Gen.iblk]
  rw [Gen.V_main_arg1]
  apply congrArg (m ((c.tc : Thread nD τ).loc main_arg1))
  obtain ⟨e0, e1, e2⟩ := emb_sc t (ix3 0 r x)
  funext a; apply Fin.ext
  fin_cases a
  · exact e0.trans h0.symm
  · exact e1.trans h1.symm
  · exact e2.trans h2.symm

theorem b_apply (t : Fin cfg0.N) (r : Fin 8) (x : Fin 512) (i : S30x8x1024.Idx) (h0 : (i 0).val = min t.val 59 / 2) (h1 : (i 1).val = r.val) (h2 : (i 2).val = min t.val 59 % 2 * 512 + x.val) :
    (inAt m c t).b (ix3 0 r x) = m ((c.tc : Thread nD τ).loc main_arg3) i := by
  show Gen.iblk m c 3 t (ix3 0 r x) = _
  blk_simp [Gen.iblk]
  rw [Gen.V_main_arg3]
  apply congrArg (m ((c.tc : Thread nD τ).loc main_arg3))
  obtain ⟨e0, e1, e2⟩ := emb_b t (ix3 0 r x)
  funext a; apply Fin.ext
  fin_cases a
  · exact e0.trans h0.symm
  · exact e1.trans h1.symm
  · exact e2.trans h2.symm

theorem a_apply (t : Fin cfg0.N) (r : Fin 16) (g : Fin 32) (p : Fin 128) (j : Fin 512) (hj : j.val = 16 * g.val + r.val) (i : S30x4096x8.Idx) (h0 : (i 0).val = min t.val 59 / 2) (h1 : (i 1).val = 128 * g.val + p.val) (h2 : (i 2).val = r.val % 8) :
    (inAt m c t).a (ix3 0 j p) = m ((c.tc : Thread nD τ).loc main_arg2) i := by
  show Gen.iblk m c 2 t (ix3 0 j p) = _
  obtain ⟨e0, e1, e2⟩ := emb_a t (ix3 0 j p)
  have e0 : _ = min t.val 59 / 2 := e0
  have e1 : _ = j.val := e1
  have e2 : _ = p.val := e2
  blk_simp [Gen.iblk]
  entry_read
  change (((View.whole main_v3).slice (win0_2.rect t)).emb (ix3 0 j p) 0).val = _ at e0
  change (((View.whole main_v3).slice (win0_2.rect t)).emb (ix3 0 j p) 1).val = _ at e1
  change (((View.whole main_v3).slice (win0_2.rect t)).emb (ix3 0 j p) 2).val = _ at e2
  generalize ((View.whole main_v3).slice (win0_2.rect t)).emb (ix3 0 j p) = Y at e0 e1 e2 ⊢
  have hr := r.isLt
  pointwise
  split
  · rename_i hh
    refine congrArg (m ((c.tc : Thread nD τ).loc main_arg2)) ?_
    funext a; apply Fin.ext
    fin_cases a
    · exact e0.trans h0.symm
    · refine Eq.trans ?_ h1.symm
      show (Y 1).val / 16 * 128 + (Y 2).val = _
      omega
    · refine Eq.trans ?_ h2.symm
      show (Y 1).val % 16 = _
      omega
  · rename_i hh
    refine congrArg (m ((c.tc : Thread nD τ).loc main_arg2)) ?_
    funext a; apply Fin.ext
    fin_cases a
    · exact e0.trans h0.symm
    · refine Eq.trans ?_ h1.symm
      show (Y 1).val / 16 * 128 + (Y 2).val = _
      omega
    · refine Eq.trans ?_ h2.symm
      show (Y 1).val % 16 - 8 = _
      omega

theorem m_apply (t : Fin cfg0.N) (x : Fin 512) (i : S30x1024.Idx) (h0 : (i 0).val = (t.val - 1) / 2) (h2 : (i 1).val = (t.val - 1) % 2 * 512 + x.val) :
    (inAt m c t).m (ix3 0 0 x) = m ((c.tc : Thread nD τ).loc main_arg4) i := by
  show Gen.iblk m c 4 t (ix3 0 0 x) = _
  obtain ⟨e0, e1, e2⟩ := emb_m t (ix3 0 0 x)
  blk_simp [Gen.iblk]
  entry_read
  pointwise
  refine congrArg (m ((c.tc : Thread nD τ).loc main_arg4)) ?_
  funext a; apply Fin.ext
  fin_cases a
  · exact e0.trans h0.symm
  · exact e2.trans h2.symm

theorem emb_oc (t : Fin cfg0.N) (y : S1x2048x512.Idx) : ((win0_5.blk t).view.emb y 1).val = (y 1).val := by
  blk_simp [index_oc]

theorem out_oc : (dats m 0 c).arrAt 5 cfg0.N = fun i : S30x2048x1024.Idx => ocBuf (inNat m c (2 * (i 0).val + (i 2).val / 512)) (inNat m c (2 * (i 0).val + (i 2).val / 512 + 1)) (ix3 0 (i 1) ⟨(i 2).val % 512, Nat.mod_lt _ (by decide)⟩) := by
  refine (dats m 0 c).arrAt_eq_of_covers 5 _ (by decide +kernel) fun t hf y => ?_
  have ht : t.val ≠ 0 := fun h0 => by
    obtain rfl : t = ⟨0, by decide⟩ := Fin.ext h0
    exact absurd hf (by decide +kernel)
  blk_simp [index_oc]
  have h2 : (y 2).val < 512 := (y 2).isLt
  have hy0 : (y 0).val < 1 := (y 0).isLt
  have hj : ∀ k : ℕ, k = t.val - 1 → ∀ k' : ℕ, k' = t.val → ∀ z : S1x2048x512.Idx, z = y → (dats m 0 c).after 5 t y = ocBuf (inNat m c k) (inNat m c k') z := by
    intro k hk k' hk' z hz
    subst hk hk' hz
    exact rfl
  refine hj _ ?_ _ ?_ _ ?_
  · simp; omega
  · simp; omega
  · funext a; apply Fin.ext
    fin_cases a
    · show 0 = (y 0).val
      omega
    · exact emb_oc t y
    · simp; omega

theorem emb_os (t : Fin cfg0.N) (y : S1x32x512.Idx) : ((win0_6.blk t).view.emb y 1).val = (y 1).val := by
  blk_simp [index_os]

theorem out_os : (dats m 0 c).arrAt 6 cfg0.N = fun i : S30x32x1024.Idx => osBuf (inNat m c (2 * (i 0).val + (i 2).val / 512)) (inNat m c (2 * (i 0).val + (i 2).val / 512 + 1)) (ix3 0 (i 1) ⟨(i 2).val % 512, Nat.mod_lt _ (by decide)⟩) := by
  refine (dats m 0 c).arrAt_eq_of_covers 6 _ (by decide +kernel) fun t hf y => ?_
  have ht : t.val ≠ 0 := fun h0 => by
    obtain rfl : t = ⟨0, by decide⟩ := Fin.ext h0
    exact absurd hf (by decide +kernel)
  blk_simp [index_os]
  have h2 : (y 2).val < 512 := (y 2).isLt
  have hy0 : (y 0).val < 1 := (y 0).isLt
  have hj : ∀ k : ℕ, k = t.val - 1 → ∀ k' : ℕ, k' = t.val → ∀ z : S1x32x512.Idx, z = y → (dats m 0 c).after 6 t y = osBuf (inNat m c k) (inNat m c k') z := by
    intro k hk k' hk' z hz
    subst hk hk' hz
    exact rfl
  refine hj _ ?_ _ ?_ _ ?_
  · simp; omega
  · simp; omega
  · funext a; apply Fin.ext
    fin_cases a
    · show 0 = (y 0).val
      omega
    · exact emb_os t y
    · simp; omega

end Cert.KernelIdeal.Value

end
-- ==== Proof.Value.Reference.lean ====
/- The reference's two results as towers over its five arguments, and the entries of every tower. -/
module

public import proofs.«01_k».proof.Proof.Gen.ReferenceIdeal.Run
public import Idealize.ShloMosaic.Lib.Pointwise
public import proofs.«01_k».proof.Proof.Value.Algebra

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

open Cert.Algebra (absE scaleOf clipped packed nibLo nibHi)

section Towers

variable {F : FTy → Type} [FloatOps F]
  (x0 : Vec F S30x2048x1024 .i8) (x1 : Vec F S30x32x1024 .bf16) (x2 : Vec F S30x4096x8 .bf16) (x3 : Vec F S30x8x1024 .bf16) (x4 : Vec F S30x1024 .bf16)
  (lo hi : Vec F S30x32x64x1024 .f32) (C : Vec F S30x1024 .f32) (A S : Vec F S30x32x1024 .f32)

/-- The codes of the even rows. -/
def codeLo : Vec F S30x32x64x1024 .f32 :=
  sitofp .f32 (shapeCast _ (select (cmpi .sge (andi (extui 32 x0 natLt_8_32) (broadcastInDim S30x2048x1024 ![] bcast_S_S30x2048x1024 (constantI S_ 32 15#32))) (broadcastInDim S30x2048x1024 ![] bcast_S_S30x2048x1024 (constantI S_ 32 8#32))) (subi (andi (extui 32 x0 natLt_8_32) (broadcastInDim S30x2048x1024 ![] bcast_S_S30x2048x1024 (constantI S_ 32 15#32))) (broadcastInDim S30x2048x1024 ![] bcast_S_S30x2048x1024 (constantI S_ 32 16#32))) (andi (extui 32 x0 natLt_8_32) (broadcastInDim S30x2048x1024 ![] bcast_S_S30x2048x1024 (constantI S_ 32 15#32)))) shapeCasts_S30x2048x1024_S30x32x64x1024)

/-- The codes of the odd rows. -/
def codeHi : Vec F S30x32x64x1024 .f32 :=
  sitofp .f32 (shapeCast _ (select (cmpi .sge (Host.shrsi (extui 32 x0 natLt_8_32) (broadcastInDim S30x2048x1024 ![] bcast_S_S30x2048x1024 (constantI S_ 32 4#32))) (broadcastInDim S30x2048x1024 ![] bcast_S_S30x2048x1024 (constantI S_ 32 8#32))) (subi (Host.shrsi (extui 32 x0 natLt_8_32) (broadcastInDim S30x2048x1024 ![] bcast_S_S30x2048x1024 (constantI S_ 32 4#32))) (broadcastInDim S30x2048x1024 ![] bcast_S_S30x2048x1024 (constantI S_ 32 16#32))) (Host.shrsi (extui 32 x0 natLt_8_32) (broadcastInDim S30x2048x1024 ![] bcast_S_S30x2048x1024 (constantI S_ 32 4#32)))) shapeCasts_S30x2048x1024_S30x32x64x1024)

/-- The scales, one for every row. -/
def scales : Vec F S30x32x64x1024 .f32 :=
  broadcastInDim S30x32x64x1024 ![0, 1, 2, 3] bcast_S30x32x1x1024_S30x32x64x1024_0_1_2_3 (broadcastInDim S30x32x1x1024 ![0, 1, 3] bcast_S30x32x1024_S30x32x1x1024_0_1_3 (extf .f32 x1 bitsLt_bf16_f32))

/-- The low-rank product of the even rows. -/
def prodLo : Vec F S30x32x64x1024 .f32 :=
  Host.dotGeneral dot_S30x32x64x8_S30x8x1024_S30x32x64x1024_3_1_12_2_0_0 none (shapeCast _ (extractStridedSlice S30x32x64x1x8 ![0, 0, 0, 0, 0] (shapeCast _ x2 shapeCasts_S30x4096x8_S30x32x64x2x8) slices_S30x32x64x2x8_S30x32x64x1x8_0_0_0_0_0) shapeCasts_S30x32x64x1x8_S30x32x64x8) x3

/-- The low-rank product of the odd rows. -/
def prodHi : Vec F S30x32x64x1024 .f32 :=
  Host.dotGeneral dot_S30x32x64x8_S30x8x1024_S30x32x64x1024_3_1_12_2_0_0 none (shapeCast _ (extractStridedSlice S30x32x64x1x8 ![0, 0, 0, 1, 0] (shapeCast _ x2 shapeCasts_S30x4096x8_S30x32x64x2x8) slices_S30x32x64x2x8_S30x32x64x1x8_0_0_0_1_0) shapeCasts_S30x32x64x1x8_S30x32x64x8) x3

/-- The merged weights of the even rows. -/
def rLo : Vec F S30x32x64x1024 .f32 :=
  addf (mulf (codeLo x0) (scales x1)) (mulf (broadcastInDim S30x32x64x1024 ![] bcast_S_S30x32x64x1024 (constant S_ .f32 0x3F000000#32)) (prodLo x2 x3))

/-- The merged weights of the odd rows. -/
def rHi : Vec F S30x32x64x1024 .f32 :=
  addf (mulf (codeHi x0) (scales x1)) (mulf (broadcastInDim S30x32x64x1024 ![] bcast_S_S30x32x64x1024 (constant S_ .f32 0x3F000000#32)) (prodHi x2 x3))

/-- The factor of every column. -/
def rC : Vec F S30x1024 .f32 :=
  Host.divf (extf .f32 x4 bitsLt_bf16_f32) (Host.sqrt (addf (Host.reduceAdd (mulf lo lo) (constant S_ .f32 0x00000000#32) reducesTo_S30x32x64x1024_S30x1024_d1_2 h_S_) (Host.reduceAdd (mulf hi hi) (constant S_ .f32 0x00000000#32) reducesTo_S30x32x64x1024_S30x1024_d1_2 h_S_)))

/-- The largest magnitude of every group. -/
def rA : Vec F S30x32x1024 .f32 :=
  maximumf (Host.reduce FloatOps.maximumf (Host.absf (mulf lo (broadcastInDim S30x32x64x1024 ![0, 1, 2, 3] bcast_S30x1x1x1024_S30x32x64x1024_0_1_2_3 (broadcastInDim S30x1x1x1024 ![0, 3] bcast_S30x1024_S30x1x1x1024_0_3 C)))) (constant S_ .f32 0xFF800000#32) reducesTo_S30x32x64x1024_S30x32x1024_d2 h_S_) (Host.reduce FloatOps.maximumf (Host.absf (mulf hi (broadcastInDim S30x32x64x1024 ![0, 1, 2, 3] bcast_S30x1x1x1024_S30x32x64x1024_0_1_2_3 (broadcastInDim S30x1x1x1024 ![0, 3] bcast_S30x1024_S30x1x1x1024_0_3 C)))) (constant S_ .f32 0xFF800000#32) reducesTo_S30x32x64x1024_S30x32x1024_d2 h_S_)

/-- The new scales. -/
def rS : Vec F S30x32x1024 .f32 :=
  select (cmpf .oeq A (broadcastInDim S30x32x1024 ![] bcast_S_S30x32x1024 (constant S_ .f32 0x00000000#32))) (broadcastInDim S30x32x1024 ![] bcast_S_S30x32x1024 (constant S_ .f32 0x3F800000#32)) (Host.divf A (broadcastInDim S30x32x1024 ![] bcast_S_S30x32x1024 (constant S_ .f32 0x40E00000#32)))

/-- The new codes. -/
def rQ : Vec F S30x2048x1024 .i8 :=
  shapeCast S30x2048x1024 (trunci 8 (ori (andi (extsi 32 (trunci 8 (fptosi 32 (minimumf (broadcastInDim S30x32x64x1024 ![] bcast_S_S30x32x64x1024 (sitofp .f32 (constantI S_ 32 7#32))) (maximumf (broadcastInDim S30x32x64x1024 ![] bcast_S_S30x32x64x1024 (sitofp .f32 (constantI S_ 32 4294967289#32))) (Host.roundeven (Host.divf (mulf lo (broadcastInDim S30x32x64x1024 ![0, 1, 2, 3] bcast_S30x1x1x1024_S30x32x64x1024_0_1_2_3 (broadcastInDim S30x1x1x1024 ![0, 3] bcast_S30x1024_S30x1x1x1024_0_3 C))) (broadcastInDim S30x32x64x1024 ![0, 1, 2, 3] bcast_S30x32x1x1024_S30x32x64x1024_0_1_2_3 (broadcastInDim S30x32x1x1024 ![0, 1, 3] bcast_S30x32x1024_S30x32x1x1024_0_1_3 (extf .f32 (truncf .bf16 S bitsLt_bf16_f32) bitsLt_bf16_f32)))))))) natLt_8_32) natLt_8_32) (broadcastInDim S30x32x64x1024 ![] bcast_S_S30x32x64x1024 (constantI S_ 32 15#32))) (Host.shli (andi (extsi 32 (trunci 8 (fptosi 32 (minimumf (broadcastInDim S30x32x64x1024 ![] bcast_S_S30x32x64x1024 (sitofp .f32 (constantI S_ 32 7#32))) (maximumf (broadcastInDim S30x32x64x1024 ![] bcast_S_S30x32x64x1024 (sitofp .f32 (constantI S_ 32 4294967289#32))) (Host.roundeven (Host.divf (mulf hi (broadcastInDim S30x32x64x1024 ![0, 1, 2, 3] bcast_S30x1x1x1024_S30x32x64x1024_0_1_2_3 (broadcastInDim S30x1x1x1024 ![0, 3] bcast_S30x1024_S30x1x1x1024_0_3 C))) (broadcastInDim S30x32x64x1024 ![0, 1, 2, 3] bcast_S30x32x1x1024_S30x32x64x1024_0_1_2_3 (broadcastInDim S30x32x1x1024 ![0, 1, 3] bcast_S30x32x1024_S30x32x1x1024_0_1_3 (extf .f32 (truncf .bf16 S bitsLt_bf16_f32) bitsLt_bf16_f32)))))))) natLt_8_32) natLt_8_32) (broadcastInDim S30x32x64x1024 ![] bcast_S_S30x32x64x1024 (constantI S_ 32 15#32))) (broadcastInDim S30x32x64x1024 ![] bcast_S_S30x32x64x1024 (constantI S_ 32 4#32)))) natLt_8_32) shapeCasts_S30x32x64x1024_S30x2048x1024

end Towers

theorem codeLo_apply (x0 : Vec Ideal S30x2048x1024 .i8) (b : Fin 30) (g : Fin 32) (p : Fin 64) (n : Fin 1024) : codeLo x0 (ix4 b g p n) = (((nibLo (x0 (ix3 b ⟨g.val * 64 + p.val, by omega⟩ n))).toInt : ℝ) : EReal) := by
  pointwise [codeLo]
  exact rfl

theorem codeHi_apply (x0 : Vec Ideal S30x2048x1024 .i8) (b : Fin 30) (g : Fin 32) (p : Fin 64) (n : Fin 1024) : codeHi x0 (ix4 b g p n) = (((nibHi (x0 (ix3 b ⟨g.val * 64 + p.val, by omega⟩ n))).toInt : ℝ) : EReal) := by
  pointwise [codeHi]
  exact rfl

theorem scales_apply (x1 : Vec Ideal S30x32x1024 .bf16) (b : Fin 30) (g : Fin 32) (p : Fin 64) (n : Fin 1024) : scales x1 (ix4 b g p n) = x1 (ix3 b g n) := by
  pointwise [scales]

theorem rLo_apply (x0 : Vec Ideal S30x2048x1024 .i8) (x1 : Vec Ideal S30x32x1024 .bf16) (x2 : Vec Ideal S30x4096x8 .bf16) (x3 : Vec Ideal S30x8x1024 .bf16) (b : Fin 30) (g : Fin 32) (p : Fin 64) (n : Fin 1024) :
   rLo x0 x1 x2 x3 (ix4 b g p n) = codeLo x0 (ix4 b g p n) * scales x1 (ix4 b g p n) + Ideal.ofBits FTy.f32 1056964608#32 * prodLo x2 x3 (ix4 b g p n) := by
  pointwise [rLo]

theorem rHi_apply (x0 : Vec Ideal S30x2048x1024 .i8) (x1 : Vec Ideal S30x32x1024 .bf16) (x2 : Vec Ideal S30x4096x8 .bf16) (x3 : Vec Ideal S30x8x1024 .bf16) (b : Fin 30) (g : Fin 32) (p : Fin 64) (n : Fin 1024) :
   rHi x0 x1 x2 x3 (ix4 b g p n) = codeHi x0 (ix4 b g p n) * scales x1 (ix4 b g p n) + Ideal.ofBits FTy.f32 1056964608#32 * prodHi x2 x3 (ix4 b g p n) := by
  pointwise [rHi]

theorem prodLo_apply (x2 : Vec Ideal S30x4096x8 .bf16) (x3 : Vec Ideal S30x8x1024 .bf16) (b : Fin 30) (g : Fin 32) (p : Fin 64) (n : Fin 1024) :
    prodLo x2 x3 (ix4 b g p n) = ∑ r : Fin 8, x2 (ix3 b ⟨g.val * 128 + p.val * 2, by omega⟩ r) * x3 (ix3 b r n) := by
  pointwise [prodLo]

theorem prodHi_apply (x2 : Vec Ideal S30x4096x8 .bf16) (x3 : Vec Ideal S30x8x1024 .bf16) (b : Fin 30) (g : Fin 32) (p : Fin 64) (n : Fin 1024) :
    prodHi x2 x3 (ix4 b g p n) = ∑ r : Fin 8, x2 (ix3 b ⟨g.val * 128 + (p.val * 2 + 1), by omega⟩ r) * x3 (ix3 b r n) := by
  pointwise [prodHi]
  try rfl

theorem rS_apply (A : Vec Ideal S30x32x1024 .f32) (b : Fin 30) (g : Fin 32) (n : Fin 1024) :
    rS A (ix3 b g n) = scaleOf (A (ix3 b g n)) := by
  pointwise [rS]
  exact rfl

section fiber
variable {n0 n1 n2 n3 : ℕ} {t : Shape}

/-- The source indices of a sum over the two middle axes. -/
theorem fiber_middle (h : (⟨4, ![n0, n1, n2, n3]⟩ : Shape).ReducesTo [1, 2] (⟨2, ![n0, n3]⟩ : Shape)) (b : Fin n0) (n : Fin n3) (i : (⟨4, ![n0, n1, n2, n3]⟩ : Shape).Idx) :
    h.drop i = ix2 b n ↔ ∃ k : Fin n1 × Fin n2, ix4 b k.1 k.2 n = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- A sum over the two middle axes. -/
theorem sum_middle (h : (⟨4, ![n0, n1, n2, n3]⟩ : Shape).ReducesTo [1, 2] (⟨2, ![n0, n3]⟩ : Shape)) (v : (⟨4, ![n0, n1, n2, n3]⟩ : Shape).Idx → EReal) (b : Fin n0) (n : Fin n3) :
    Ideal.hostReduceAdd h v 0 (ix2 b n) = ∑ g : Fin n1, ∑ p : Fin n2, v (ix4 b g p n) := by
  refine (zero_add _).trans ?_
  refine (Finset.sum_filter_eq_sum_of_fiber _ (fun k : Fin n1 × Fin n2 => ix4 b k.1 k.2 n)
    (fun _ _ e => Prod.ext (congrFun e 1) (congrFun e 2)) (fiber_middle h b n) v).trans ?_
  simp only [Fintype.sum_prod_type]

end fiber

theorem rC_apply (x4 : Vec Ideal S30x1024 .bf16) (lo hi : Vec Ideal S30x32x64x1024 .f32) (b : Fin 30) (n : Fin 1024) :
    rC x4 lo hi (ix2 b n) = Ideal.div (x4 (ix2 b n)) (Ideal.sqrt ((∑ g : Fin 32, ∑ p : Fin 64, lo (ix4 b g p n) * lo (ix4 b g p n)) + ∑ g : Fin 32, ∑ p : Fin 64, hi (ix4 b g p n) * hi (ix4 b g p n))) := by
  pointwise [rC]
  refine congrArg₂ (fun a b => Ideal.div (x4 _) (Ideal.sqrt (a + b))) ?_ ?_
  · exact sum_middle reducesTo_S30x32x64x1024_S30x1024_d1_2 (mulf (F := Ideal) (φ := .f32) lo lo) b n
  · exact sum_middle reducesTo_S30x32x64x1024_S30x1024_d1_2 (mulf (F := Ideal) (φ := .f32) hi hi) b n

theorem reduce_le (v : Vec Ideal S30x32x64x1024 .f32) (b : Fin 30) (g : Fin 32) (n : Fin 1024) (x : EReal) :
    Host.reduce (FloatOps.maximumf (F := Ideal) (φ := .f32)) v (constant (F := Ideal) S_ .f32 0xFF800000#32) reducesTo_S30x32x64x1024_S30x32x1024_d2 h_S_ (ix3 b g n) ≤ x ↔ ∀ p : Fin 64, v (ix4 b g p n) ≤ x := by
  have e0 : (constant (F := Ideal) S_ .f32 0xFF800000#32 (Shape.Idx.first h_S_) : EReal) = ⊥ := by
    show Ideal.ofBits .f32 0xFF800000#32 = ⊥
    simp [Ideal.ofBits, Ideal.ieee]
  rw [Host.reduce_eq_fold, Shape.ReducesTo.fold_fiber_r4_a2, e0]
  refine (Finset.fold_max_le (β := EReal) (f := fun k : Fin 64 => v (ix4 b g k n)) x).trans ?_
  simp

theorem maximumf_at {s : Shape} (u v : FVec Ideal s .f32) (i : s.Idx) : maximumf u v i = max (u i : EReal) (v i) := rfl

theorem absf_at (v w : Vec Ideal S30x32x64x1024 .f32) (i : S30x32x64x1024.Idx) : Host.absf (F := Ideal) (φ := .f32) (mulf (F := Ideal) (φ := .f32) v w) i = absE ((v i : EReal) * w i) := rfl

theorem column_at (C : Vec Ideal S30x1024 .f32) (b : Fin 30) (g : Fin 32) (p : Fin 64) (n : Fin 1024) :
    broadcastInDim S30x32x64x1024 ![0, 1, 2, 3] bcast_S30x1x1x1024_S30x32x64x1024_0_1_2_3 (broadcastInDim S30x1x1x1024 ![0, 3] bcast_S30x1024_S30x1x1x1024_0_3 C) (ix4 b g p n) = C (ix2 b n) := by
  pointwise

theorem rA_le (lo hi : Vec Ideal S30x32x64x1024 .f32) (C : Vec Ideal S30x1024 .f32) (b : Fin 30) (g : Fin 32) (n : Fin 1024) (x : EReal) :
    rA lo hi C (ix3 b g n) ≤ x ↔ (∀ p : Fin 64, absE (lo (ix4 b g p n) * C (ix2 b n)) ≤ x) ∧ ∀ p : Fin 64, absE (hi (ix4 b g p n) * C (ix2 b n)) ≤ x := by
  have one : ∀ (v : Vec Ideal S30x32x64x1024 .f32) (p : Fin 64), Host.absf (F := Ideal) (φ := .f32) (mulf (F := Ideal) (φ := .f32) v (broadcastInDim S30x32x64x1024 ![0, 1, 2, 3] bcast_S30x1x1x1024_S30x32x64x1024_0_1_2_3 (broadcastInDim S30x1x1x1024 ![0, 3] bcast_S30x1024_S30x1x1x1024_0_3 C))) (ix4 b g p n) = absE (v (ix4 b g p n) * C (ix2 b n)) := by
    intro v p
    rw [absf_at, column_at]
  unfold rA
  rw [maximumf_at, max_le_iff]
  refine and_congr ((reduce_le _ b g n x).trans (forall_congr' fun p => ?_)) ((reduce_le _ b g n x).trans (forall_congr' fun p => ?_))
  · rw [one]
  · rw [one]

theorem sitofp_seven : (FloatOps.sitofp (F := Ideal) FTy.f32 7#32 : EReal) = Ideal.ofBits FTy.f32 1088421888#32 := by
  rw [Cert.Algebra.ofBits_seven]
  show (((7#32 : BitVec 32).toInt : ℝ) : EReal) = _
  rw [show (7#32 : BitVec 32).toInt = 7 from by decide]
  norm_num

theorem sitofp_negSeven : (FloatOps.sitofp (F := Ideal) FTy.f32 4294967289#32 : EReal) = Ideal.ofBits FTy.f32 3235905536#32 := by
  rw [Cert.Algebra.ofBits_negSeven]
  show (((4294967289#32 : BitVec 32).toInt : ℝ) : EReal) = _
  rw [show (4294967289#32 : BitVec 32).toInt = -7 from by decide]
  norm_num

theorem rQ_apply (lo hi : Vec Ideal S30x32x64x1024 .f32) (C : Vec Ideal S30x1024 .f32) (S : Vec Ideal S30x32x1024 .f32) (b : Fin 30) (i : Fin 2048) (n : Fin 1024) :
    rQ lo hi C S (ix3 b i n) = packed (clipped (Ideal.div (lo (ix4 b ⟨i.val / 64, by omega⟩ ⟨i.val % 64, by omega⟩ n) * C (ix2 b n)) (S (ix3 b ⟨i.val / 64, by omega⟩ n))))
      (clipped (Ideal.div (hi (ix4 b ⟨i.val / 64, by omega⟩ ⟨i.val % 64, by omega⟩ n) * C (ix2 b n)) (S (ix3 b ⟨i.val / 64, by omega⟩ n)))) := by
  pointwise [rQ]
  rw [sitofp_seven, sitofp_negSeven]
  rfl

theorem res61 {F : FTy → Type} [FloatOps F] (m : (ℓ : Loc nD τ sig) → Buf (Elt F) ℓ) (c : Dev nD) : res_main_v61 m c = truncf .bf16 (rS (rA (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3))) (rC (m ((c.tc : Thread nD τ).loc main_arg4)) (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3)))))) bitsLt_bf16_f32 := by
  unfold res_main_v61 rS rA rC rLo rHi codeLo codeHi scales prodLo prodHi
  rfl

theorem res86 {F : FTy → Type} [FloatOps F] (m : (ℓ : Loc nD τ sig) → Buf (Elt F) ℓ) (c : Dev nD) : res_main_v86 m c = rQ (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3))) (rC (m ((c.tc : Thread nD τ).loc main_arg4)) (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3)))) (rS (rA (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3))) (rC (m ((c.tc : Thread nD τ).loc main_arg4)) (rLo (m ((c.tc : Thread nD τ).loc main_arg0)) (m ((c.tc : Thread nD τ).loc main_arg1)) (m ((c.tc : Thread nD τ).loc main_arg2)) (m ((c.tc : Thread nD τ).loc main_arg3))) (rHi (m ((c.tc : Thread nD τ).loc main_arg0)) (m ((c.tc : Thread nD τ).loc main_arg1)) (m ((c.tc : Thread nD τ).loc main_arg2)) (m ((c.tc : Thread nD τ).loc main_arg3)))))) := by
  unfold res_main_v86 rQ rS rA rC rLo rHi codeLo codeHi scales prodLo prodHi
  rfl

end Cert.ReferenceIdeal.Value

end
-- ==== Proof.Value.Equal.lean ====
/- The two results of the kernel are the two results of the reference, whenever the factors are real numbers and the scales
   are real numbers, none zero. -/
module

public import proofs.«01_k».proof.Proof.Value.Tile
public import proofs.«01_k».proof.Proof.Value.Codes
public import proofs.«01_k».proof.Proof.Value.Windows
public import proofs.«01_k».proof.Proof.Value.Reference

@[expose] public section

set_option maxRecDepth 16384

noncomputable section

namespace Cert.Equal

open Idealize.ShloMosaic Idealize.ShloMosaic.TcCoe
open Cert.Algebra (coe_sum sum_pairs absE scaleOf clipped packed nibLo nibHi ofBits_half)
open Cert.ReferenceIdeal.Value (rLo rHi rC rA rS rQ)
open Cert.KernelIdeal (S30x2048x1024 S30x32x1024 S30x4096x8 S30x8x1024 S30x1024)

section Plain

variable (x0 : Vec Ideal S30x2048x1024 .i8) (x1 : Vec Ideal S30x32x1024 .bf16) (x2 : Vec Ideal S30x4096x8 .bf16) (x3 : Vec Ideal S30x8x1024 .bf16) (x4 : Vec Ideal S30x1024 .bf16)
  (b : Fin 30) (e : Fin 2)

/-- The column of a half that a column of the whole is. -/
abbrev col (c : Fin 512) : Fin 1024 := ⟨e.val * 512 + c.val, by omega⟩

/-- The code of a row of a group. -/
def code (g : Fin 32) (p : Fin 128) (c : Fin 512) : ℝ :=
  ((if p.val % 2 = 0 then (nibLo (x0 (ix3 b ⟨64 * g.val + p.val / 2, by omega⟩ (col e c)))).toInt
    else (nibHi (x0 (ix3 b ⟨64 * g.val + p.val / 2, by omega⟩ (col e c)))).toInt : ℤ) : ℝ)

/-- The scale of a group. -/
def scale (g : Fin 32) (c : Fin 512) : ℝ := (x1 (ix3 b g (col e c)) : EReal).toReal

/-- The first factor. -/
def left (g : Fin 32) (p : Fin 128) (r : Fin 8) : ℝ := (x2 (ix3 b ⟨128 * g.val + p.val, by omega⟩ r) : EReal).toReal

/-- Half the second factor. -/
def right (r : Fin 8) (c : Fin 512) : ℝ := (x3 (ix3 b r (col e c)) : EReal).toReal * (1 / 2)

/-- The merged weight of a row of a group. -/
abbrev weight (g : Fin 32) (p : Fin 128) (c : Fin 512) : ℝ :=
  code x0 b e g p c * scale x1 b e g c + ∑ r : Fin 8, left x2 b g p r * right x3 b e r c

theorem coe_toReal' {x : EReal} (h : ∃ r : ℝ, x = r) : x = ((x.toReal : ℝ) : EReal) := by
  obtain ⟨r, rfl⟩ := h
  rfl

variable (h1 : ∀ i, ∃ r : ℝ, r ≠ 0 ∧ (x1 i : EReal) = r) (h2 : ∀ i, ∃ r : ℝ, (x2 i : EReal) = r) (h3 : ∀ i, ∃ r : ℝ, (x3 i : EReal) = r)

include h1 in
theorem scale_coe (g : Fin 32) (c : Fin 512) : (x1 (ix3 b g (col e c)) : EReal) = (scale x1 b e g c : EReal) := by
  obtain ⟨r, _, hr⟩ := h1 (ix3 b g (col e c))
  exact coe_toReal' ⟨r, hr⟩

include h1 in
theorem scale_ne_zero (g : Fin 32) (c : Fin 512) : scale x1 b e g c ≠ 0 := by
  obtain ⟨r, h, hr⟩ := h1 (ix3 b g (col e c))
  unfold scale
  rw [hr]
  exact h

include h3 in
theorem right_coe (r : Fin 8) (c : Fin 512) : (x3 (ix3 b r (col e c)) : EReal) * Ideal.ofBits FTy.f32 1056964608#32 = (right x3 b e r c : EReal) := by
  unfold right
  rw [ofBits_half, EReal.coe_mul, ← coe_toReal' (h3 _)]

include h2 in
theorem left_coe (g : Fin 32) (p : Fin 128) (r : Fin 8) (i : Fin 4096) (hi : i.val = 128 * g.val + p.val) : (x2 (ix3 b i r) : EReal) = (left x2 b g p r : EReal) := by
  have k : i = ⟨128 * g.val + p.val, by omega⟩ := Fin.ext hi
  rw [k]
  exact coe_toReal' (h2 _)

include h2 h3 in
/-- The reference halves the product, the kernel the second factor. -/
theorem half_sum (g : Fin 32) (p : Fin 128) (c : Fin 512) (i : Fin 4096) (hi : i.val = 128 * g.val + p.val) :
    Ideal.ofBits FTy.f32 1056964608#32 * ∑ r : Fin 8, (x2 (ix3 b i r) : EReal) * x3 (ix3 b r (col e c)) = ((∑ r : Fin 8, left x2 b g p r * right x3 b e r c : ℝ) : EReal) := by
  have k : ∀ r : Fin 8, (x2 (ix3 b i r) : EReal) * x3 (ix3 b r (col e c)) = ((left x2 b g p r * (x3 (ix3 b r (col e c)) : EReal).toReal : ℝ) : EReal) := fun r => by
    rw [left_coe x2 b h2 g p r i hi, EReal.coe_mul, ← coe_toReal' (h3 _)]
  rw [Finset.sum_congr rfl fun r _ => k r, ← coe_sum, ofBits_half, ← EReal.coe_mul, Finset.mul_sum]
  refine congrArg _ (Finset.sum_congr rfl fun r _ => ?_)
  unfold right
  ring

include h1 h2 h3 in
theorem lo_value (g : Fin 32) (p : Fin 64) (c : Fin 512) :
    (rLo x0 x1 x2 x3 (ix4 b g p (col e c)) : EReal) = (weight x0 x1 x2 x3 b e g ⟨2 * p.val, by omega⟩ c : EReal) := by
  rw [Cert.ReferenceIdeal.Value.rLo_apply, Cert.ReferenceIdeal.Value.codeLo_apply, Cert.ReferenceIdeal.Value.scales_apply, Cert.ReferenceIdeal.Value.prodLo_apply,
    scale_coe x1 b e h1, half_sum x2 x3 b e h2 h3 g ⟨2 * p.val, by omega⟩ c _ (by show g.val * 128 + p.val * 2 = 128 * g.val + 2 * p.val; omega), ← EReal.coe_mul, ← EReal.coe_add]
  have k : code x0 b e g ⟨2 * p.val, by omega⟩ c = (((nibLo (x0 (ix3 b ⟨g.val * 64 + p.val, by omega⟩ (col e c)))).toInt : ℤ) : ℝ) := by
    unfold code
    rw [if_pos (by show 2 * p.val % 2 = 0; omega)]
    have : (⟨64 * g.val + 2 * p.val / 2, by omega⟩ : Fin 2048) = ⟨g.val * 64 + p.val, by omega⟩ := Fin.ext (by show 64 * g.val + 2 * p.val / 2 = g.val * 64 + p.val; omega)
    rw [this]
  rw [weight, k]

include h1 h2 h3 in
theorem hi_value (g : Fin 32) (p : Fin 64) (c : Fin 512) :
    (rHi x0 x1 x2 x3 (ix4 b g p (col e c)) : EReal) = (weight x0 x1 x2 x3 b e g ⟨2 * p.val + 1, by omega⟩ c : EReal) := by
  rw [Cert.ReferenceIdeal.Value.rHi_apply, Cert.ReferenceIdeal.Value.codeHi_apply, Cert.ReferenceIdeal.Value.scales_apply, Cert.ReferenceIdeal.Value.prodHi_apply,
    scale_coe x1 b e h1, half_sum x2 x3 b e h2 h3 g ⟨2 * p.val + 1, by omega⟩ c _ (by show g.val * 128 + (p.val * 2 + 1) = 128 * g.val + (2 * p.val + 1); omega), ← EReal.coe_mul, ← EReal.coe_add]
  have k : code x0 b e g ⟨2 * p.val + 1, by omega⟩ c = (((nibHi (x0 (ix3 b ⟨g.val * 64 + p.val, by omega⟩ (col e c)))).toInt : ℤ) : ℝ) := by
    unfold code
    rw [if_neg (by show ¬ (2 * p.val + 1) % 2 = 0; omega)]
    have : (⟨64 * g.val + (2 * p.val + 1) / 2, by omega⟩ : Fin 2048) = ⟨g.val * 64 + p.val, by omega⟩ := Fin.ext (by show 64 * g.val + (2 * p.val + 1) / 2 = g.val * 64 + p.val; omega)
    rw [this]
  rw [weight, k]

/-- The reference's factor of every column. -/
abbrev factor : Vec Ideal S30x1024 .f32 := rC x4 (rLo x0 x1 x2 x3) (rHi x0 x1 x2 x3)

/-- The reference's largest magnitude of every group. -/
abbrev largest : Vec Ideal S30x32x1024 .f32 := rA (rLo x0 x1 x2 x3) (rHi x0 x1 x2 x3) (factor x0 x1 x2 x3 x4)

include h1 h2 h3 in
theorem factor_value (c : Fin 512) : (factor x0 x1 x2 x3 x4 (ix2 b (col e c)) : EReal)
    = Ideal.div (x4 (ix2 b (col e c))) (Ideal.sqrt ((∑ g : Fin 32, ∑ p : Fin 128, weight x0 x1 x2 x3 b e g p c ^ 2 : ℝ) : EReal)) := by
  have k : (∑ g : Fin 32, ∑ p : Fin 128, weight x0 x1 x2 x3 b e g p c ^ 2)
      = (∑ g : Fin 32, ∑ p : Fin 64, weight x0 x1 x2 x3 b e g ⟨2 * p.val, by omega⟩ c * weight x0 x1 x2 x3 b e g ⟨2 * p.val, by omega⟩ c)
        + ∑ g : Fin 32, ∑ p : Fin 64, weight x0 x1 x2 x3 b e g ⟨2 * p.val + 1, by omega⟩ c * weight x0 x1 x2 x3 b e g ⟨2 * p.val + 1, by omega⟩ c := by
    rw [← Finset.sum_add_distrib]
    refine Finset.sum_congr rfl fun g _ => ?_
    rw [sum_pairs]
    simp only [sq]
  rw [factor, Cert.ReferenceIdeal.Value.rC_apply, k]
  simp only [lo_value x0 x1 x2 x3 b e h1 h2 h3, hi_value x0 x1 x2 x3 b e h1 h2 h3]
  rw [EReal.coe_add, coe_sum, coe_sum]
  simp only [coe_sum, EReal.coe_mul]

include h1 h2 h3 in
theorem largest_le (g : Fin 32) (c : Fin 512) (x : EReal) : (largest x0 x1 x2 x3 x4 (ix3 b g (col e c)) : EReal) ≤ x
    ↔ ∀ p : Fin 128, absE ((weight x0 x1 x2 x3 b e g p c : EReal) * factor x0 x1 x2 x3 x4 (ix2 b (col e c))) ≤ x := by
  rw [largest, Cert.ReferenceIdeal.Value.rA_le]
  constructor
  · rintro ⟨k0, k1⟩ p
    rcases Nat.mod_two_eq_zero_or_one p.val with hp | hp
    · have k := k0 ⟨p.val / 2, by omega⟩
      rw [lo_value x0 x1 x2 x3 b e h1 h2 h3] at k
      have : (⟨2 * (p.val / 2), by omega⟩ : Fin 128) = p := Fin.ext (by show 2 * (p.val / 2) = p.val; omega)
      rw [this] at k
      exact k
    · have k := k1 ⟨p.val / 2, by omega⟩
      rw [hi_value x0 x1 x2 x3 b e h1 h2 h3] at k
      have : (⟨2 * (p.val / 2) + 1, by omega⟩ : Fin 128) = p := Fin.ext (by show 2 * (p.val / 2) + 1 = p.val; omega)
      rw [this] at k
      exact k
  · intro k
    refine ⟨fun p => ?_, fun p => ?_⟩
    · rw [lo_value x0 x1 x2 x3 b e h1 h2 h3]; exact k _
    · rw [hi_value x0 x1 x2 x3 b e h1 h2 h3]; exact k _

end Plain

section Launch

open Cert.KernelIdeal Cert.KernelIdeal.Value

variable (m : (ℓ : Loc nD τ sig) → Buf (Elt Ideal) ℓ) (c : Dev nD) (b : Fin 30) (e : Fin 2)

/-- The five arguments. -/
abbrev a0 : Vec Ideal S30x2048x1024 .i8 := m ((c.tc : Thread nD τ).loc main_arg0)
abbrev a1 : Vec Ideal S30x32x1024 .bf16 := m ((c.tc : Thread nD τ).loc main_arg1)
abbrev a2 : Vec Ideal S30x4096x8 .bf16 := m ((c.tc : Thread nD τ).loc main_arg2)
abbrev a3 : Vec Ideal S30x8x1024 .bf16 := m ((c.tc : Thread nD τ).loc main_arg3)
abbrev a4 : Vec Ideal S30x1024 .bf16 := m ((c.tc : Thread nD τ).loc main_arg4)

variable (h1 : ∀ i, ∃ r : ℝ, r ≠ 0 ∧ (a1 m c i : EReal) = r) (h2 : ∀ i, ∃ r : ℝ, (a2 m c i : EReal) = r) (h3 : ∀ i, ∃ r : ℝ, (a3 m c i : EReal) = r)

theorem points : cfg0.N = 61 := by decide

/-- The point that merges a tile. -/
abbrev point : Fin cfg0.N := ⟨2 * b.val + e.val, by rw [points]; omega⟩

include h1 h2 h3 in
/-- The entries of a tile's inputs are those of the arguments. -/
theorem entries : Entries (inNat m c (2 * b.val + e.val)) (code (a0 m c) b e) (scale (a1 m c) b e) (left (a2 m c) b) (right (a3 m c) b e) := by
  have hI : inNat m c (2 * b.val + e.val) = inAt m c (point b e) := inNat_val m c (point b e)
  have hb := b.isLt
  have he := e.isLt
  have k0 : b.val = min (2 * b.val + e.val) 59 / 2 := by omega
  have k2 : ∀ x : ℕ, e.val * 512 + x = min (2 * b.val + e.val) 59 % 2 * 512 + x := fun x => by
    have : min (2 * b.val + e.val) 59 % 2 = e.val := by omega
    rw [this]
  rw [hI]
  refine ⟨fun g p x => ?_, fun g x => ?_, fun g x => scale_ne_zero (a1 m c) b e h1 g x, fun g r p => ?_, fun r x => ?_⟩
  · exact qVal_apply _ g p x _ (q_apply m c (point b e) _ x (ix3 b ⟨64 * g.val + p.val / 2, by omega⟩ (col e x)) k0 rfl (k2 x.val))
  · rw [sc_apply m c (point b e) g x (ix3 b g (col e x)) k0 rfl (k2 x.val)]
    exact scale_coe (a1 m c) b e h1 g x
  · rw [a_apply m c (point b e) r g p _ rfl (ix3 b ⟨128 * g.val + p.val, by omega⟩ ⟨r.val % 8, by omega⟩) k0 rfl rfl]
    exact left_coe (a2 m c) b h2 g p _ _ rfl
  · rw [bh_apply, b_apply m c (point b e) r x (ix3 b r (col e x)) k0 rfl (k2 x.val)]
    exact right_coe (a3 m c) b e h3 r x

include h1 h2 h3 in
/-- The factor of a column, with the magnitudes the next point reads. -/
theorem factor_eq (x : Fin 512) : (factor (a0 m c) (a1 m c) (a2 m c) (a3 m c) (a4 m c) (ix2 b (col e x)) : EReal)
    = Ideal.div ((inNat m c (2 * b.val + e.val + 1)).m (ix3 0 0 x)) (Ideal.sqrt ((∑ g : Fin 32, ∑ p : Fin 128, (code (a0 m c) b e g p x * scale (a1 m c) b e g x + ∑ r : Fin 8, left (a2 m c) b g p r * right (a3 m c) b e r x) ^ 2 : ℝ) : EReal)) := by
  have hb := b.isLt
  have he := e.isLt
  have hN : 2 * b.val + e.val + 1 < cfg0.N := by rw [points]; omega
  have hI : inNat m c (2 * b.val + e.val + 1) = inAt m c ⟨2 * b.val + e.val + 1, hN⟩ := inNat_val m c ⟨2 * b.val + e.val + 1, hN⟩
  have k2 : e.val * 512 + x.val = (2 * b.val + e.val + 1 - 1) % 2 * 512 + x.val := by
    have : (2 * b.val + e.val + 1 - 1) % 2 = e.val := by omega
    rw [this]
  rw [hI, m_apply m c ⟨2 * b.val + e.val + 1, hN⟩ x (ix2 b (col e x)) (by show b.val = (2 * b.val + e.val + 1 - 1) / 2; omega) k2]
  exact factor_value (a0 m c) (a1 m c) (a2 m c) (a3 m c) (a4 m c) b e h1 h2 h3 x

include h1 h2 h3 in
theorem scales_eq (g : Fin 32) (x : Fin 512) :
    osBuf (inNat m c (2 * b.val + e.val)) (inNat m c (2 * b.val + e.val + 1)) (ix3 0 g x)
      = rS (largest (a0 m c) (a1 m c) (a2 m c) (a3 m c) (a4 m c)) (ix3 b g (col e x)) := by
  rw [Cert.ReferenceIdeal.Value.rS_apply]
  exact os_tile (entries m c b e h1 h2 h3) _ _ x (factor_eq m c b e h1 h2 h3 x) g _ (largest_le (a0 m c) (a1 m c) (a2 m c) (a3 m c) (a4 m c) b e h1 h2 h3 g x)

include h1 h2 h3 in
theorem codes_eq (i : Fin 2048) (x : Fin 512) :
    ocBuf (inNat m c (2 * b.val + e.val)) (inNat m c (2 * b.val + e.val + 1)) (ix3 0 i x)
      = rQ (rLo (a0 m c) (a1 m c) (a2 m c) (a3 m c)) (rHi (a0 m c) (a1 m c) (a2 m c) (a3 m c)) (factor (a0 m c) (a1 m c) (a2 m c) (a3 m c) (a4 m c))
          (rS (largest (a0 m c) (a1 m c) (a2 m c) (a3 m c) (a4 m c))) (ix3 b i (col e x)) := by
  rw [Cert.ReferenceIdeal.Value.rQ_apply, Cert.ReferenceIdeal.Value.rS_apply, lo_value (a0 m c) (a1 m c) (a2 m c) (a3 m c) b e h1 h2 h3, hi_value (a0 m c) (a1 m c) (a2 m c) (a3 m c) b e h1 h2 h3]
  exact oc_tile (entries m c b e h1 h2 h3) _ _ x (factor_eq m c b e h1 h2 h3 x) ⟨i.val / 64, by omega⟩ _ (largest_le (a0 m c) (a1 m c) (a2 m c) (a3 m c) (a4 m c) b e h1 h2 h3 _ x) i rfl

/-- A position of a three-dimensional array by its half. -/
theorem split3 {n : ℕ} (i : Shape.Idx ⟨3, ![30, n, 1024]⟩) :
    ∃ (b : Fin 30) (e : Fin 2) (r : Fin n) (x : Fin 512), i = ix3 b r (col e x) ∧ (i 0).val = b.val ∧ (i 2).val / 512 = e.val ∧ (i 2).val % 512 = x.val ∧ i 1 = r := by
  have h : (i 2).val < 1024 := (i 2).isLt
  refine ⟨i 0, ⟨(i 2).val / 512, by omega⟩, i 1, ⟨(i 2).val % 512, by omega⟩, ?_, rfl, rfl, rfl, rfl⟩
  funext a; apply Fin.ext
  match a with
  | ⟨0, _⟩ => rfl
  | ⟨1, _⟩ => rfl
  | ⟨2, _⟩ => show (i 2).val = (i 2).val / 512 * 512 + (i 2).val % 512; omega

include h1 h2 h3 in
/-- The kernel's codes are the reference's. -/
theorem all_codes : (dats m 0 c).arrAt 5 cfg0.N = rQ (rLo (a0 m c) (a1 m c) (a2 m c) (a3 m c)) (rHi (a0 m c) (a1 m c) (a2 m c) (a3 m c)) (factor (a0 m c) (a1 m c) (a2 m c) (a3 m c) (a4 m c))
          (rS (largest (a0 m c) (a1 m c) (a2 m c) (a3 m c) (a4 m c))) := by
  rw [out_oc]
  funext i
  obtain ⟨b, e, r, x, hi, k0, k2, kx, k1⟩ := split3 (n := 2048) i
  have kx' : (⟨(i 2).val % 512, Nat.mod_lt _ (by decide)⟩ : Fin 512) = x := Fin.ext kx
  dsimp only
  rw [k0, k2, kx', k1, codes_eq m c b e h1 h2 h3 r x, hi]

include h1 h2 h3 in
/-- The kernel's scales are the reference's. -/
theorem all_scales : (dats m 0 c).arrAt 6 cfg0.N = (rS (largest (a0 m c) (a1 m c) (a2 m c) (a3 m c) (a4 m c)) : S30x32x1024.Idx → EReal) := by
  rw [out_os]
  funext i
  obtain ⟨b, e, r, x, hi, k0, k2, kx, k1⟩ := split3 (n := 32) i
  have kx' : (⟨(i 2).val % 512, Nat.mod_lt _ (by decide)⟩ : Fin 512) = x := Fin.ext kx
  dsimp only
  rw [k0, k2, kx', k1, scales_eq m c b e h1 h2 h3 r x, hi]

end Launch

end Cert.Equal

end
-- ==== Proof.lean ====
/- The certificate: the frame of the kernel, of its ideal program and of the ideal reference, the statement that the ideal
   program is the kernel over the extended reals, and the equality of the ideal program's results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame.Frame
public import proofs.«01_k».proof.Proof.KernelIdealFrame.Frame
public import proofs.«01_k».proof.Proof.Value.Finite
public import proofs.«01_k».proof.Proof.Value.Equal

@[expose] public section

set_option maxRecDepth 16384

noncomputable section

namespace Cert.Proof

open Idealize.ShloMosaic Idealize.SL.Sem

/-- The kernel runs, its arguments end unchanged, every semaphore counter ends at zero. -/
theorem frame_kernel : Cert.quiescent_Kernel := fun m ρ _ => Cert.Kernel.Body.frame m ρ

/-- So does the ideal kernel. -/
theorem frame_ideal : Cert.quiescent_KernelIdeal := fun m ρ _ => Cert.KernelIdeal.Body.frame m ρ

/-- So does the ideal reference: its run, read at its arguments; it declares no semaphore. -/
theorem frame_reference : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The two places where the ideal program reads a bit pattern as a rounding to bf16. -/
theorem preserves : Cert.preserves_Kernel_KernelIdeal :=
  ⟨IdealRules.bf16_pack.statement _, IdealRules.bf16_pack.statement _⟩

/-- The frame of the ideal kernel under the precondition is its frame. -/
theorem frame_ideal_pre : Cert.quiescent_KernelIdeal_pre_finite_inputs := fun m ρ _ => Cert.KernelIdeal.Body.frame m ρ

/-- The frame of the ideal reference under the precondition is its frame. -/
theorem frame_reference_pre : Cert.quiescent_ReferenceIdeal_pre_finite_inputs := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section Algebraic

open Cert.KernelIdeal Cert.KernelIdeal.Value

variable (m : (ℓ : Loc nD τ sig) → Buf (Elt Ideal) ℓ)

/-- The run of the ideal kernel, read at its two results and its arguments. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = (dats m 0 c).arrAt 5 cfg0.N
      ∧ r.2.mem ((c.tc : Thread nD τ).loc main_v5_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6,
      ((h.1 c).1 0).trans (((dats m 0 c).arrAt_in 0 rfl _).trans ((A_eq m c 0).trans (Gen.V_main_arg0 m c))),
      ((h.1 c).1 1).trans (((dats m 0 c).arrAt_in 1 rfl _).trans ((A_eq m c 1).trans (Gen.V_main_arg1 m c))),
      ((h.1 c).2 main_arg2 (Pipeline.mem_restRefs_of main_arg2 (by decide) (by decide))).trans (Gen.V_main_arg2 m c),
      ((h.1 c).1 3).trans (((dats m 0 c).arrAt_in 3 rfl _).trans ((A_eq m c 3).trans (Gen.V_main_arg3 m c))),
      ((h.1 c).2 main_arg4 (Pipeline.mem_restRefs_of main_arg4 (by decide) (by decide))).trans (Gen.V_main_arg4 m c)⟩) (run_arrays m ρ)

end Algebraic

/-- Over the extended reals a change of format is the identity. -/
theorem truncf_same {s : Shape} (x : FVec Ideal s .f32) (h : FTy.bits .bf16 < FTy.bits .f32) : truncf .bf16 x h = (x : s.Idx → EReal) := rfl

/-- The ideal kernel's results are the reference's. -/
theorem algebraic : Cert.algebraic_KernelIdeal_ReferenceIdeal_pre_finite_inputs := by
  intro m g m' g' hpre hargs
  have fin := fun c => Cert.Pre_finite_inputs.finite_of _ _ _ _ _ (hpre c)
  refine ⟨fun c => (Cert.KernelIdeal.Value.dats m 0 c).arrAt 5 Cert.KernelIdeal.cfg0.N, fun c => (Cert.KernelIdeal.Value.dats m 0 c).arrAt 6 Cert.KernelIdeal.cfg0.N, ?_, ?_⟩
  · exact run_results m g
  · exact (θ_run Cert.ReferenceIdeal.defs _ _).mono (fun r h c => by
      obtain ⟨e0, e1, e2, e3, e4⟩ := hargs c
      refine ⟨(h c).1.trans ?_, (h c).2.1.trans ?_, (h c).2.2⟩
      · rw [Cert.ReferenceIdeal.Value.res86, e0, e1, e2, e3, e4]
        exact (Cert.Equal.all_codes m c (fin c).1 (fin c).2.1 (fin c).2.2).symm
      · rw [Cert.ReferenceIdeal.Value.res61, e0, e1, e2, e3, e4]
        refine (truncf_same _ _).trans ?_
        exact (Cert.Equal.all_scales m c (fin c).1 (fin c).2.1 (fin c).2.2).symm)
      (Cert.ReferenceIdeal.Value.run (F := Ideal) m' g')

theorem claim : Cert.Claim := ⟨Cert.Kernel.Gen.facts, Cert.KernelIdeal.Gen.facts, Cert.ReferenceIdeal.Gen.facts, Cert.Pre_finite_inputs.facts,
  frame_kernel, frame_ideal, frame_ideal_pre, frame_reference, frame_reference_pre, preserves, algebraic⟩

end Cert.Proof

end
